-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31_0) = v0 c
          ∧ r.2.mem ((c.tc : Thread Cert.ReferenceIdeal.nD Cert.ReferenceIdeal.τ).loc Cert.ReferenceIdeal.main_v31_1) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x6144x2048 : Shape := ⟨3, ![4, 6144, 2048]⟩
abbrev S_ : Shape := ⟨0, ![]⟩
abbrev S4x6144x4608 : Shape := ⟨3, ![4, 6144, 4608]⟩
abbrev S2048x4608 : Shape := ⟨2, ![2048, 4608]⟩
abbrev S24576x2048 : Shape := ⟨2, ![24576, 2048]⟩
abbrev S24576x4608 : Shape := ⟨2, ![24576, 4608]⟩
abbrev S1x1 : Shape := ⟨2, ![1, 1]⟩
abbrev S1024x4608 : Shape := ⟨2, ![1024, 4608]⟩
abbrev S16x4608 : Shape := ⟨2, ![16, 4608]⟩
abbrev S64x16x4608 : Shape := ⟨3, ![64, 16, 4608]⟩
abbrev S1x16x4608 : Shape := ⟨3, ![1, 16, 4608]⟩
abbrev S1 : Shape := ⟨1, ![1]⟩
abbrev S1x1x1 : Shape := ⟨3, ![1, 1, 1]⟩
abbrev S254 : Shape := ⟨1, ![254]⟩
abbrev S2 : Shape := ⟨1, ![2]⟩
abbrev S512x2048 : Shape := ⟨2, ![512, 2048]⟩
abbrev S512x1536 : Shape := ⟨2, ![512, 1536]⟩
abbrev S2048x1536 : Shape := ⟨2, ![2048, 1536]⟩

abbrev nBuf : Space → Nat
  | .hbm => 56
  | .vmem => 13
  | .smem => 2
  | _ => 0

abbrev bufTy : (tb : Table) → Fin (tcTables nBuf tb) → BufTy
  | .hbm, ⟨0, _⟩ => ⟨S4x6144x2048, .fp8e4m3⟩
  | .hbm, ⟨1, _⟩ => ⟨S_, .f32⟩
  | .hbm, ⟨2, _⟩ => ⟨S4x6144x4608, .bf16⟩
  | .hbm, ⟨3, _⟩ => ⟨S2048x4608, .f32⟩
  | .hbm, ⟨4, _⟩ => ⟨S24576x2048, .fp8e4m3⟩
  | .hbm, ⟨5, _⟩ => ⟨S24576x4608, .bf16⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S_, .i32⟩
  | .hbm, ⟨15, _⟩ => ⟨S254, .i32⟩
  | .hbm, ⟨16, _⟩ => ⟨S254, .i32⟩
  | .hbm, ⟨17, _⟩ => ⟨S254, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .i1⟩
  | .hbm, ⟨22, _⟩ => ⟨S_, .i1⟩
  | .hbm, ⟨23, _⟩ => ⟨S254, .f32⟩
  | .hbm, ⟨24, _⟩ => ⟨S254, .i1⟩
  | .hbm, ⟨25, _⟩ => ⟨S254, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S_, .f32⟩
  | .hbm, ⟨50, _⟩ => ⟨S1, .f32⟩
  | .hbm, ⟨51, _⟩ => ⟨S1, .f32⟩
  | .hbm, ⟨52, _⟩ => ⟨S2, .f32⟩
  | .hbm, ⟨53, _⟩ => ⟨S2048x4608, .f32⟩
  | .hbm, ⟨54, _⟩ => ⟨S24576x4608, .fp8e5m2⟩
  | .hbm, ⟨55, _⟩ => ⟨S4x6144x4608, .fp8e5m2⟩
  | .local _ .vmem, ⟨0, _⟩ => ⟨S1024x4608, .bf16⟩
  | .local _ .vmem, ⟨1, _⟩ => ⟨S1024x4608, .bf16⟩
  | .local _ .vmem, ⟨2, _⟩ => ⟨S16x4608, .bf16⟩
  | .local _ .vmem, ⟨3, _⟩ => ⟨S512x2048, .fp8e4m3⟩
  | .local _ .vmem, ⟨4, _⟩ => ⟨S512x2048, .fp8e4m3⟩
  | .local _ .vmem, ⟨5, _⟩ => ⟨S512x1536, .bf16⟩
  | .local _ .vmem, ⟨6, _⟩ => ⟨S512x1536, .bf16⟩
  | .local _ .vmem, ⟨7, _⟩ => ⟨S2048x1536, .f32⟩
  | .local _ .vmem, ⟨8, _⟩ => ⟨S2048x1536, .f32⟩
  | .local _ .vmem, ⟨9, _⟩ => ⟨S2048x1536, .f32⟩
  | .local _ .vmem, ⟨10, _⟩ => ⟨S2048x1536, .f32⟩
  | .local _ .vmem, ⟨11, _⟩ => ⟨S512x1536, .fp8e5m2⟩
  | .local _ .vmem, ⟨12, _⟩ => ⟨S512x1536, .fp8e5m2⟩
  | .local _ .smem, ⟨0, _⟩ => ⟨S1x1, .f32⟩
  | .local _ .smem, ⟨1, _⟩ => ⟨S2, .f32⟩
  | _, _ => ⟨S4x6144x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_c_5 : Ref sig .tc := ⟨.hbm, 30, rfl⟩
abbrev main_call0_v0 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_c_7 : Ref sig .tc := ⟨.hbm, 35, rfl⟩
abbrev main_call1_v0 : Ref sig .tc := ⟨.hbm, 36, rfl⟩
abbrev main_v21 : Ref sig .tc := ⟨.hbm, 37, rfl⟩
abbrev main_c_8 : Ref sig .tc := ⟨.hbm, 38, rfl⟩
abbrev main_v22 : Ref sig .tc := ⟨.hbm, 39, rfl⟩
abbrev main_c_9 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_10 : Ref sig .tc := ⟨.hbm, 44, rfl⟩
abbrev main_v26 : Ref sig .tc := ⟨.hbm, 45, rfl⟩
abbrev main_c_11 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33_0 : Ref sig .tc := ⟨.hbm, 53, rfl⟩
abbrev main_v33_1 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_stg1_0 : Ref sig .tc := ⟨.smem, 0, rfl⟩
abbrev cc1_stg0_0 : Ref sig .tc := ⟨.smem, 1, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![24], ![false]⟩

def k0_cond3 (i : grid0.Coords) : BitVec 1 :=
  let arg0 : BitVec 32 := BitVec.ofNat 32 (i 0).val
  let c23_i32 : BitVec 32 := 23#32
  let v11 : BitVec 1 := Scalar.cmpi .eq arg0 c23_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![3, 48], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x2048 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1536 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S4x6144x2048 : Shape := ⟨3, ![4, 6144, 2048]⟩
abbrev S_ : Shape := ⟨0, ![]⟩
abbrev S4x6144x4608 : Shape := ⟨3, ![4, 6144, 4608]⟩
abbrev S2048x4608 : Shape := ⟨2, ![2048, 4608]⟩
abbrev S254 : Shape := ⟨1, ![254]⟩
abbrev S1x1 : Shape := ⟨2, ![1, 1]⟩
abbrev S24576x2048 : Shape := ⟨2, ![24576, 2048]⟩
abbrev S24576x4608 : Shape := ⟨2, ![24576, 4608]⟩

abbrev nBuf : Space → Nat
  | .hbm => 54
  | .vmem => 7
  | .smem => 0
  | _ => 0

abbrev bufTy : (tb : Table) → Fin (tcTables nBuf tb) → BufTy
  | .hbm, ⟨0, _⟩ => ⟨S4x6144x2048, .fp8e4m3⟩
  | .hbm, ⟨1, _⟩ => ⟨S_, .f32⟩
  | .hbm, ⟨2, _⟩ => ⟨S4x6144x4608, .bf16⟩
  | .hbm, ⟨3, _⟩ => ⟨S2048x4608, .f32⟩
  | .hbm, ⟨4, _⟩ => ⟨S4x6144x4608, .f32⟩
  | .hbm, ⟨5, _⟩ => ⟨S4x6144x4608, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S_, .i32⟩
  | .hbm, ⟨15, _⟩ => ⟨S254, .i32⟩
  | .hbm, ⟨16, _⟩ => ⟨S254, .i32⟩
  | .hbm, ⟨17, _⟩ => ⟨S254, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .i1⟩
  | .hbm, ⟨22, _⟩ => ⟨S_, .i1⟩
  | .hbm, ⟨23, _⟩ => ⟨S254, .f32⟩
  | .hbm, ⟨24, _⟩ => ⟨S254, .i1⟩
  | .hbm, ⟨25, _⟩ => ⟨S254, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S1x1, .f32⟩
  | .hbm, ⟨50, _⟩ => ⟨S_, .f32⟩
  | .hbm, ⟨51, _⟩ => ⟨S1x1, .f32⟩
  | .hbm, ⟨52, _⟩ => ⟨S2048x4608, .f32⟩
  | .hbm, ⟨53, _⟩ => ⟨S4x6144x4608, .fp8e5m2⟩
  | .local _ .vmem, ⟨0, _⟩ => ⟨S1x1, .f32⟩
  | .local _ .vmem, ⟨1, _⟩ => ⟨S1x1, .f32⟩
  | .local _ .vmem, ⟨2, _⟩ => ⟨S4x6144x4608, .bf16⟩
  | .local _ .vmem, ⟨3, _⟩ => ⟨S4x6144x2048, .fp8e4m3⟩
  | .local _ .vmem, ⟨4, _⟩ => ⟨S2048x4608, .f32⟩
  | .local _ .vmem, ⟨5, _⟩ => ⟨S2048x4608, .f32⟩
  | .local _ .vmem, ⟨6, _⟩ => ⟨S4x6144x4608, .fp8e5m2⟩
  | _, _ => ⟨S4x6144x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_c_6 : Ref sig .tc := ⟨.hbm, 30, rfl⟩
abbrev main_call0_v0 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_c_8 : Ref sig .tc := ⟨.hbm, 35, rfl⟩
abbrev main_call1_v0 : Ref sig .tc := ⟨.hbm, 36, rfl⟩
abbrev main_v20 : Ref sig .tc := ⟨.hbm, 37, rfl⟩
abbrev main_c_9 : Ref sig .tc := ⟨.hbm, 38, rfl⟩
abbrev main_v21 : Ref sig .tc := ⟨.hbm, 39, rfl⟩
abbrev main_c_10 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_11 : Ref sig .tc := ⟨.hbm, 44, rfl⟩
abbrev main_v25 : Ref sig .tc := ⟨.hbm, 45, rfl⟩
abbrev main_c_12 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x6144x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x6144x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x6144x4608 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelAmax.lean ====
/- REGION 0 of `Cert.Kernel.main`, the kernel `_amax_kernel` (24 points), at the contents `V` the region is entered from: the
   whole-body run of each case of its conditionals, what the output and the scratch carried between the points hold after
   each point (`outsAt0`), the proof data (`dat0`, whose invariant `PhiS` names the scratch's contents), the body obligation
   and the invariant's two ends (`hin`, `hout`). -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__amax_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 24 = 23 :=
  (fun t => by
    have ht : t.val < 24 := Nat.lt_of_lt_of_eq t.isLt N_0
    have e0 : (grid0.coords t 0).val = t.val / 1 % 24 := Pipeline.Grid.coords_val t 0 (by decide) rfl
    simp only [cond0_2, k0_cond3, e0]
    word_cmp
   : ∀ t : Fin grid0.N, cond0_2 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x1 .f32 := (Memref.whole cc0_stg1_0 : Memref sig .tc .smem S1x1 .f32).view
/-- Each window's current staging memref at point `t`, spelled as the pipeline passes it (`bodyAt0`), and its wholeness. -/
abbrev ms0_0 (t : Fin cfg0.N) : Memref sig .tc .vmem S1024x4608 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x4608 .bf16 := Memref.whole cc0_scratch0
/-- The scratch `arg3` the kernel carries between points, as a view: what it holds is stated through it. -/
abbrev VS0_0 : View sig .tc .vmem S16x4608 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg0_0), ((c : Thread nD τ).loc cc1_stg0_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : cond0_0 i) (hc1 : ¬cond0_1 i) (hc2 : ¬cond0_2 i)
    (x0 : Vec F S1024x4608 .bf16) :
    Σ' (L1 : List (View.Piece (Elt F) S1x1 .f32)), { LS0 : List (View.Piece (Elt F) S16x4608 .bf16) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__amax_kernel i arg1 harg1 arg2 harg2 arg3 harg3) K } := by
  refine ⟨[], ?_, fun xi1 E K => ?run⟩
  case run =>
    simp only [cc0__amax_kernel_eq_skeleton]; unfold cc0__amax_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : cond0_0 i) (hc1 : ¬cond0_1 i) (hc2 : ¬cond0_2 i)
    (x0 : Vec F S1024x4608 .bf16) : Vec F S1x1 .f32 :=
  VO0_1.read (Elt F) (VO0_1.writes (Elt F) VO0_1.junk (kernelRun0_A c i arg1 harg1 arg2 harg2 arg3 harg3 hc0 hc1 hc2 x0).1)

/-- Case A's pieces for scratch `arg3`, which the kernel carries between points, cover it: 1 piece of `S16x4608` tiling it (Lib/Ring.lean `Piece.tiledL`). -/
theorem scover0_A_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : cond0_0 i) (hc1 : ¬cond0_1 i) (hc2 : ¬cond0_2 i)
    (x0 : Vec F S1024x4608 .bf16) (y : S16x4608.Idx) :
    ∃ pc ∈ (kernelRun0_A c i arg1 harg1 arg2 harg2 arg3 harg3 hc0 hc1 hc2 x0).2.1, y ∈ pc.1.set :=
  View.cover_of_tiledL (kernelRun0_A c i arg1 harg1 arg2 harg2 arg3 harg3 hc0 hc1 hc2 x0).2.1 S16x4608.size (by sl_kernel_rfl) y

/-- What case A leaves in scratch `arg3`: its pieces read back over junk. -/
def sout0_A_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : cond0_0 i) (hc1 : ¬cond0_1 i) (hc2 : ¬cond0_2 i)
    (x0 : Vec F S1024x4608 .bf16) : Vec F S16x4608 .bf16 :=
  VS0_0.read (Elt F) (VS0_0.writes (Elt F) VS0_0.junk (kernelRun0_A c i arg1 harg1 arg2 harg2 arg3 harg3 hc0 hc1 hc2 x0).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 22: 22 of 24), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : ¬cond0_2 i)
    (x0 : Vec F S1024x4608 .bf16) (xs0 : Vec F S16x4608 .bf16) :
    Σ' (L1 : List (View.Piece (Elt F) S1x1 .f32)), { LS0 : List (View.Piece (Elt F) S16x4608 .bf16) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__amax_kernel i arg1 harg1 arg2 harg2 arg3 harg3) K } := by
  refine ⟨[], ?_, fun xi1 E K => ?run⟩
  case run =>
    simp only [cc0__amax_kernel_eq_skeleton]; unfold cc0__amax_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : ¬cond0_2 i)
    (x0 : Vec F S1024x4608 .bf16) (xs0 : Vec F S16x4608 .bf16) : Vec F S1x1 .f32 :=
  VO0_1.read (Elt F) (VO0_1.writes (Elt F) VO0_1.junk (kernelRun0_B c i arg1 harg1 arg2 harg2 arg3 harg3 hc0 hc1 hc2 x0 xs0).1)

/-- Case B's pieces for scratch `arg3`, which the kernel carries between points, cover it: 1 piece of `S16x4608` tiling it (Lib/Ring.lean `Piece.tiledL`). -/
theorem scover0_B_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : ¬cond0_2 i)
    (x0 : Vec F S1024x4608 .bf16) (xs0 : Vec F S16x4608 .bf16) (y : S16x4608.Idx) :
    ∃ pc ∈ (kernelRun0_B c i arg1 harg1 arg2 harg2 arg3 harg3 hc0 hc1 hc2 x0 xs0).2.1, y ∈ pc.1.set :=
  View.cover_of_tiledL (kernelRun0_B c i arg1 harg1 arg2 harg2 arg3 harg3 hc0 hc1 hc2 x0 xs0).2.1 S16x4608.size (by sl_kernel_rfl) y

/-- What case B leaves in scratch `arg3`: its pieces read back over junk. -/
def sout0_B_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : ¬cond0_2 i)
    (x0 : Vec F S1024x4608 .bf16) (xs0 : Vec F S16x4608 .bf16) : Vec F S16x4608 .bf16 :=
  VS0_0.read (Elt F) (VS0_0.writes (Elt F) VS0_0.junk (kernelRun0_B c i arg1 harg1 arg2 harg2 arg3 harg3 hc0 hc1 hc2 x0 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 23), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) :
    Σ' (L1 : List (View.Piece (Elt F) S1x1 .f32)), { LS0 : List (View.Piece (Elt F) S16x4608 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__amax_kernel i arg1 harg1 arg2 harg2 arg3 harg3) K } := by
  refine ⟨?_, ?_, fun E K => ?run⟩
  case run =>
    simp only [cc0__amax_kernel_eq_skeleton]; unfold cc0__amax_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    iexists _; iexact HS0

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) (y : S1x1.Idx) :
    ∃ pc ∈ (kernelRun0_C c i arg1 harg1 arg2 harg2 arg3 harg3 hc0 hc1 hc2 x0 xs0).1, y ∈ pc.1.set :=
  View.cover_of_tiledL (kernelRun0_C c i arg1 harg1 arg2 harg2 arg3 harg3 hc0 hc1 hc2 x0 xs0).1 S1x1.size (by sl_kernel_rfl) y

/-- What case C leaves in output 1's staging buffer: its pieces read back over junk. -/
def out0_C_1 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) : Vec F S1x1 .f32 :=
  VO0_1.read (Elt F) (VO0_1.writes (Elt F) VO0_1.junk (kernelRun0_C c i arg1 harg1 arg2 harg2 arg3 harg3 hc0 hc1 hc2 x0 xs0).1)

/-- Case C's pieces for scratch `arg3`, which the kernel carries between points, cover it: 1 piece of `S16x4608` tiling it (Lib/Ring.lean `Piece.tiledL`). -/
theorem scover0_C_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) (y : S16x4608.Idx) :
    ∃ pc ∈ (kernelRun0_C c i arg1 harg1 arg2 harg2 arg3 harg3 hc0 hc1 hc2 x0 xs0).2.1, y ∈ pc.1.set :=
  View.cover_of_tiledL (kernelRun0_C c i arg1 harg1 arg2 harg2 arg3 harg3 hc0 hc1 hc2 x0 xs0).2.1 S16x4608.size (by sl_kernel_rfl) y

/-- What case C leaves in scratch `arg3`: its pieces read back over junk. -/
def sout0_C_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) : Vec F S16x4608 .bf16 :=
  VS0_0.read (Elt F) (VS0_0.writes (Elt F) VS0_0.junk (kernelRun0_C c i arg1 harg1 arg2 harg2 arg3 harg3 hc0 hc1 hc2 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S16x4608 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 24 = 0 then
      if h1 : 1 ≤ (n + 1) then
        False.elim (by have hN : n + 1 < 24 := lt_of_lt_of_eq hn (show cfg0.N = 24 from N_0); omega)
      else
        if h2 : (n + 1) % 24 = 23 then
          False.elim (by have hN : n + 1 < 24 := lt_of_lt_of_eq hn (show cfg0.N = 24 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 24 = 23 then
          (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2)
      else
        False.elim (by have hN : n + 1 < 24 := lt_of_lt_of_eq hn (show cfg0.N = 24 from N_0); omega)

/-- `outsAt0` at a point of case A: that case's contents. -/
theorem outsAt0_A (c : Dev nD) (t : Fin cfg0.N) (h0 : t.val % 24 = 0) (h1 : ¬1 ≤ t.val) (h2 : ¬t.val % 24 = 23) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 24 = 0) (h1 : 1 ≤ t.val) (h2 : ¬t.val % 24 = 23) :
    outsAt0 V c t.val t.isLt = (out0_B_1 c (grid0.coords t) (ms0_0 t) (hs0_0 t) (ms0_1 t) (hs0_1 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 24 = 0) (h1 : 1 ≤ t.val) (h2 : t.val % 24 = 23) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg0_0), ((c : Thread nD τ).loc cc1_stg0_0) ↦{fullShare} f)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg0_0), ((c : Thread nD τ).loc cc1_stg0_0) ↦{fullShare} f)) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg0_0), ((c : Thread nD τ).loc cc1_stg0_0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 24 := lt_of_lt_of_eq t.isLt (show cfg0.N = 24 from N_0)
  by_cases h0 : t.val % 24 = 0
  · by_cases h1 : 1 ≤ t.val
    · exfalso; omega
    · by_cases h2 : t.val % 24 = 23
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨⟨HS0, HR1, HR2, HR3, HR4, HR5, HR6, HR7, HR8, HR9, HR10, HR11⟩, Hg⟩, Ho, ⟨%d0, H0⟩, ⟨%d1, H1⟩⟩
          iapply ((kernelRun0_A c (grid0.coords t) _ _ _ _ _ _ ((hcond0_0 t).mpr h0) (fun h => h1 ((hcond0_1 t).mp h)) (fun h => h2 ((hcond0_2 t).mp h)) (iblk0 V c 0 t)).2.2 _ Set.univ _)
          isplitl [H0]; · iexact H0
          isplitl [H1]; · iexact H1
          isplitl [HS0]; · iexact HS0
          iintro ⟨H0, H1, ⟨%es0, HS0⟩⟩
          isplitl [HS0 HR1 HR2 HR3 HR4 HR5 HR6 HR7 HR8 HR9 HR10 HR11 Hg]
          · isplitl [HS0 HR1 HR2 HR3 HR4 HR5 HR6 HR7 HR8 HR9 HR10 HR11]
            · isplitl [HS0]
              · unfold owns; iexists _; isplitr
                swap; · iexact HS0
                ipureintro; exact View.read_writes_of_cover _ _ _ _ _ (scover0_A_0 c _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              iexact HR11
            iexact Hg
          isplitl [Ho]; · iexact Ho
          isplitl [H0]; · iexact H0
          iexists _; iexact H1
        · exfalso; have hN : t.val < 24 := lt_of_lt_of_eq t.isLt (show cfg0.N = 24 from N_0); omega
  · by_cases h1 : 1 ≤ t.val
    · by_cases h2 : t.val % 24 = 23
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        by_cases hz : t.val = 0
        · exfalso; have hN : t.val < 24 := lt_of_lt_of_eq t.isLt (show cfg0.N = 24 from N_0); omega
        · rw [PhiS_castSucc V c t, PhiS_pos V c _ _ hz]
          rw [outsAt0_C V c t h0 h1 h2]
          unfold out0_C_1 sout0_C_0; (try dsimp only)
          iintro ⟨⟨⟨HS0, HR1, HR2, HR3, HR4, HR5, HR6, HR7, HR8, HR9, HR10, HR11⟩, Hg⟩, Ho, ⟨%d0, H0⟩, ⟨%d1, H1⟩⟩
          iapply ((kernelRun0_C c (grid0.coords t) _ _ _ _ _ _ (fun h => h0 ((hcond0_0 t).mp h)) ((hcond0_1 t).mpr h1) ((hcond0_2 t).mpr h2) (iblk0 V c 0 t) _).2.2 Set.univ _)
          isplitl [H0]; · iexact H0
          isplitl [H1]; · iexists _; iexact H1
          isplitl [HS0]; · iexact HS0
          iintro ⟨H0, ⟨%e1, H1⟩, ⟨%es0, HS0⟩⟩
          isplitl [HS0 HR1 HR2 HR3 HR4 HR5 HR6 HR7 HR8 HR9 HR10 HR11 Hg]
          · isplitl [HS0 HR1 HR2 HR3 HR4 HR5 HR6 HR7 HR8 HR9 HR10 HR11]
            · isplitl [HS0]
              · unfold owns; iexists _; isplitr
                swap; · iexact HS0
                ipureintro; exact View.read_writes_of_cover _ _ _ _ _ (scover0_C_0 c _ _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              iexact HR11
            iexact Hg
          isplitl [Ho]; · iexact Ho
          isplitl [H0]; · iexact H0
          unfold owns; iexists _; isplitr
          swap; · iexact H1
          ipureintro; exact View.read_writes_of_cover _ _ _ _ _ (cover0_C_1 c _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        by_cases hz : t.val = 0
        · exfalso; have hN : t.val < 24 := lt_of_lt_of_eq t.isLt (show cfg0.N = 24 from N_0); omega
        · rw [PhiS_castSucc V c t, PhiS_pos V c _ _ hz]
          rw [outsAt0_B V c t h0 h1 h2]
          unfold sout0_B_0; (try dsimp only)
          iintro ⟨⟨⟨HS0, HR1, HR2, HR3, HR4, HR5, HR6, HR7, HR8, HR9, HR10, HR11⟩, Hg⟩, Ho, ⟨%d0, H0⟩, ⟨%d1, H1⟩⟩
          iapply ((kernelRun0_B c (grid0.coords t) _ _ _ _ _ _ (fun h => h0 ((hcond0_0 t).mp h)) ((hcond0_1 t).mpr h1) (fun h => h2 ((hcond0_2 t).mp h)) (iblk0 V c 0 t) _).2.2 _ Set.univ _)
          isplitl [H0]; · iexact H0
          isplitl [H1]; · iexact H1
          isplitl [HS0]; · iexact HS0
          iintro ⟨H0, H1, ⟨%es0, HS0⟩⟩
          isplitl [HS0 HR1 HR2 HR3 HR4 HR5 HR6 HR7 HR8 HR9 HR10 HR11 Hg]
          · isplitl [HS0 HR1 HR2 HR3 HR4 HR5 HR6 HR7 HR8 HR9 HR10 HR11]
            · isplitl [HS0]
              · unfold owns; iexists _; isplitr
                swap; · iexact HS0
                ipureintro; exact View.read_writes_of_cover _ _ _ _ _ (scover0_B_0 c _ _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              iexact HR11
            iexact Hg
          isplitl [Ho]; · iexact Ho
          isplitl [H0]; · iexact H0
          iexists _; iexact H1
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR1, HR2, HR3, HR4, HR5, HR6, HR7, HR8, HR9, HR10, HR11⟩, Hg⟩
  isplitl [HS0 HR1 HR2 HR3 HR4 HR5 HR6 HR7 HR8 HR9 HR10 HR11]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    iexact HR11
  iexact Hg

/-- The same after the last point. -/
theorem hout (c : Dev nD) : (dat0 V c).Φ (Fin.last cfg0.N) ⊢ Pipeline.ΦA spec0 c :=
  Phi_out V c _ (by rw [Fin.val_last]; have : cfg0.N = 24 := N_0; omega)

end Regions

end Cert.Kernel.Run

end
-- ==== Proof.KernelWgrad.lean ====
/- REGION 1 of `Cert.Kernel.main`, the kernel `_wgrad_kernel` (3 x 48 points), at the contents `V` the region is entered from: the
   whole-body run of each case of its conditionals, what the two outputs hold after each point (`outsAt1`), the proof data
   (`dat1`) and the body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__wgrad_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 48) — by arithmetic of the point. -/
theorem hcond1_0 : ∀ t : Fin cfg1.N, cond1_0 (grid1.coords t) ↔ t.val % 48 = 0 :=
  (fun t => by
    have ht : t.val < 144 := Nat.lt_of_lt_of_eq t.isLt N_1
    have e0 : (grid1.coords t 0).val = t.val / 48 % 3 := Pipeline.Grid.coords_val t 0 (by decide) rfl
    have e1 : (grid1.coords t 1).val = t.val / 1 % 48 := Pipeline.Grid.coords_val t 1 (by decide) rfl
    simp only [cond1_0, e0, e1]
    word_cmp
   : ∀ t : Fin grid1.N, cond1_0 (grid1.coords t) ↔ t.val % 48 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 1).val) 47#32)) 0#32) = 1#1
/-- It holds at the points ≡ 47 (mod 48) — by arithmetic of the point. -/
theorem hcond1_1 : ∀ t : Fin cfg1.N, cond1_1 (grid1.coords t) ↔ t.val % 48 = 47 :=
  (fun t => by
    have ht : t.val < 144 := Nat.lt_of_lt_of_eq t.isLt N_1
    have e0 : (grid1.coords t 0).val = t.val / 48 % 3 := Pipeline.Grid.coords_val t 0 (by decide) rfl
    have e1 : (grid1.coords t 1).val = t.val / 1 % 48 := Pipeline.Grid.coords_val t 1 (by decide) rfl
    simp only [cond1_1, e0, e1]
    word_cmp
   : ∀ t : Fin grid1.N, cond1_1 (grid1.coords t) ↔ t.val % 48 = 47)

/-! ## The kernel body on any staging memrefs: a subtype the run finds -/

/-- One staging buffer of output window 4, through which its contents are stated (`View.read_writes_of_cover`: the
    choice does not matter). -/
abbrev VO1_4 : View sig .tc .vmem S2048x1536 .f32 := (Memref.whole cc1_stg4_0 : Memref sig .tc .vmem S2048x1536 .f32).view
/-- One staging buffer of output window 5, through which its contents are stated (`View.read_writes_of_cover`: the
    choice does not matter). -/
abbrev VO1_5 : View sig .tc .vmem S512x1536 .fp8e5m2 := (Memref.whole cc1_stg5_0 : Memref sig .tc .vmem S512x1536 .fp8e5m2).view
/-- Each window's current staging memref at point `t`, spelled as the pipeline passes it (`bodyAt1`), and its wholeness. -/
abbrev ms1_0 (t : Fin cfg1.N) : Memref sig .tc .smem S2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1536 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1536 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1536 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1536 .fp8e5m2 := win1_5.stage (cfg1.slots t 5)
abbrev hs1_5 (t : Fin cfg1.N) : (ms1_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 48, 96), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) :
    Σ' (L4 : List (View.Piece (Elt F) S2048x1536 .f32)), { L5 : List (View.Piece (Elt F) S512x1536 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__wgrad_kernel i arg2 harg2 arg3 harg3 arg4 harg4 arg5 harg5 arg6 harg6 arg7 harg7) K } := by
  refine ⟨?_, ?_, fun E K => ?run⟩
  case run =>
    simp only [cc1__wgrad_kernel_eq_skeleton]; unfold cc1__wgrad_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (2 stores of `S2048x1536`, checked by the kernel's evaluation: Lib/Ring.lean `Piece.tiledL`, linear in the pieces, through a loop's `@[irreducible]` trip theorem too), so they cover it. -/
theorem cover1_A_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) (y : S2048x1536.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S2048x1536.size (by sl_kernel_rfl) y

/-- What case A leaves in output 4's staging buffer: its pieces read back over junk. -/
def out1_A_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) : Vec F S2048x1536 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for output 5 tile its block (1 store of `S512x1536`, checked by the kernel's evaluation: Lib/Ring.lean `Piece.tiledL`, linear in the pieces, through a loop's `@[irreducible]` trip theorem too), so they cover it. -/
theorem cover1_A_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) (y : S512x1536.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S512x1536.size (by sl_kernel_rfl) y

/-- What case A leaves in output 5's staging buffer: its pieces read back over junk. -/
def out1_A_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) : Vec F S512x1536 .fp8e5m2 :=
  VO1_5.read (Elt F) (VO1_5.writes (Elt F) VO1_5.junk (kernelRun1_A c i arg2 harg2 arg3 harg3 arg4 harg4 arg5 harg5 arg6 harg6 arg7 harg7 hc0 hc1 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 142: 138 of 144), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) :
    Σ' (L4 : List (View.Piece (Elt F) S2048x1536 .f32)), { L5 : List (View.Piece (Elt F) S512x1536 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__wgrad_kernel i arg2 harg2 arg3 harg3 arg4 harg4 arg5 harg5 arg6 harg6 arg7 harg7) K } := by
  refine ⟨?_, ?_, fun E K => ?run⟩
  case run =>
    simp only [cc1__wgrad_kernel_eq_skeleton]; unfold cc1__wgrad_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case B's pieces for output 4 tile its block (1 store of `S2048x1536`, checked by the kernel's evaluation: Lib/Ring.lean `Piece.tiledL`, linear in the pieces, through a loop's `@[irreducible]` trip theorem too), so they cover it. -/
theorem cover1_B_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) (y : S2048x1536.Idx) :
    ∃ pc ∈ (kernelRun1_B c i arg2 harg2 arg3 harg3 arg4 harg4 arg5 harg5 arg6 harg6 arg7 harg7 hc0 hc1 x0 x1 x2 x3 xo4).1, y ∈ pc.1.set :=
  View.cover_of_tiledL (kernelRun1_B c i arg2 harg2 arg3 harg3 arg4 harg4 arg5 harg5 arg6 harg6 arg7 harg7 hc0 hc1 x0 x1 x2 x3 xo4).1 S2048x1536.size (by sl_kernel_rfl) y

/-- What case B leaves in output 4's staging buffer: its pieces read back over junk. -/
def out1_B_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) : Vec F S2048x1536 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xo4).1)

/-- Case B's pieces for output 5 tile its block (1 store of `S512x1536`, checked by the kernel's evaluation: Lib/Ring.lean `Piece.tiledL`, linear in the pieces, through a loop's `@[irreducible]` trip theorem too), so they cover it. -/
theorem cover1_B_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) (y : S512x1536.Idx) :
    ∃ pc ∈ (kernelRun1_B c i arg2 harg2 arg3 harg3 arg4 harg4 arg5 harg5 arg6 harg6 arg7 harg7 hc0 hc1 x0 x1 x2 x3 xo4).2.1, y ∈ pc.1.set :=
  View.cover_of_tiledL (kernelRun1_B c i arg2 harg2 arg3 harg3 arg4 harg4 arg5 harg5 arg6 harg6 arg7 harg7 hc0 hc1 x0 x1 x2 x3 xo4).2.1 S512x1536.size (by sl_kernel_rfl) y

/-- What case B leaves in output 5's staging buffer: its pieces read back over junk. -/
def out1_B_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) : Vec F S512x1536 .fp8e5m2 :=
  VO1_5.read (Elt F) (VO1_5.writes (Elt F) VO1_5.junk (kernelRun1_B c i arg2 harg2 arg3 harg3 arg4 harg4 arg5 harg5 arg6 harg6 arg7 harg7 hc0 hc1 x0 x1 x2 x3 xo4).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 47, 95, 143), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) :
    Σ' (L4 : List (View.Piece (Elt F) S2048x1536 .f32)), { L5 : List (View.Piece (Elt F) S512x1536 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__wgrad_kernel i arg2 harg2 arg3 harg3 arg4 harg4 arg5 harg5 arg6 harg6 arg7 harg7) K } := by
  refine ⟨?_, ?_, fun E K => ?run⟩
  case run =>
    simp only [cc1__wgrad_kernel_eq_skeleton]; unfold cc1__wgrad_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case C's pieces for output 4 tile its block (2 stores of `S2048x1536`, checked by the kernel's evaluation: Lib/Ring.lean `Piece.tiledL`, linear in the pieces, through a loop's `@[irreducible]` trip theorem too), so they cover it. -/
theorem cover1_C_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) (y : S2048x1536.Idx) :
    ∃ pc ∈ (kernelRun1_C c i arg2 harg2 arg3 harg3 arg4 harg4 arg5 harg5 arg6 harg6 arg7 harg7 hc0 hc1 x0 x1 x2 x3 xo4).1, y ∈ pc.1.set :=
  View.cover_of_tiledL (kernelRun1_C c i arg2 harg2 arg3 harg3 arg4 harg4 arg5 harg5 arg6 harg6 arg7 harg7 hc0 hc1 x0 x1 x2 x3 xo4).1 S2048x1536.size (by sl_kernel_rfl) y

/-- What case C leaves in output 4's staging buffer: its pieces read back over junk. -/
def out1_C_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) : Vec F S2048x1536 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xo4).1)

/-- Case C's pieces for output 5 tile its block (1 store of `S512x1536`, checked by the kernel's evaluation: Lib/Ring.lean `Piece.tiledL`, linear in the pieces, through a loop's `@[irreducible]` trip theorem too), so they cover it. -/
theorem cover1_C_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) (y : S512x1536.Idx) :
    ∃ pc ∈ (kernelRun1_C c i arg2 harg2 arg3 harg3 arg4 harg4 arg5 harg5 arg6 harg6 arg7 harg7 hc0 hc1 x0 x1 x2 x3 xo4).2.1, y ∈ pc.1.set :=
  View.cover_of_tiledL (kernelRun1_C c i arg2 harg2 arg3 harg3 arg4 harg4 arg5 harg5 arg6 harg6 arg7 harg7 hc0 hc1 x0 x1 x2 x3 xo4).2.1 S512x1536.size (by sl_kernel_rfl) y

/-- What case C leaves in output 5's staging buffer: its pieces read back over junk. -/
def out1_C_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) : Vec F S512x1536 .fp8e5m2 :=
  VO1_5.read (Elt F) (VO1_5.writes (Elt F) VO1_5.junk (kernelRun1_C c i arg2 harg2 arg3 harg3 arg4 harg4 arg5 harg5 arg6 harg6 arg7 harg7 hc0 hc1 x0 x1 x2 x3 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2048x1536 .f32 × Vec F S512x1536 .fp8e5m2
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 48 = 0 then
      if h1 : (n + 1) % 48 = 47 then
        False.elim (by have hN : n + 1 < 144 := lt_of_lt_of_eq hn (show cfg1.N = 144 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 48 = 47 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1)

/-- `outsAt1` at a point of case A: that case's contents. -/
theorem outsAt1_A (c : Dev nD) (t : Fin cfg1.N) (h0 : t.val % 48 = 0) (h1 : ¬t.val % 48 = 47) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 48 = 0) (h1 : ¬t.val % 48 = 47) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).1, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 48 = 0) (h1 : t.val % 48 = 47) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point of case B output 4's current staging buffer holds what the body left at the point before: the point is
    not the first, the buffer was not written back between (`flush1_4`), the window is live and uncut (Lib/Pipeline/Frame.lean
    `Dat.before_out_kept`). -/
theorem before1_4_B (c : Dev nD) (t : Fin cfg1.N) (h0 : ¬t.val % 48 = 0) (h1 : ¬t.val % 48 = 47) (d) :
    (dat1 V c).before 4 t d = (outsAt1 V c (t.val - 1) (Nat.lt_of_le_of_lt (Nat.sub_le _ _) t.isLt)).1 := by
  have hN : t.val < 144 := lt_of_lt_of_eq t.isLt (show cfg1.N = 144 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a point of case C output 4's current staging buffer holds what the body left at the point before: the point is
    not the first, the buffer was not written back between (`flush1_4`), the window is live and uncut (Lib/Pipeline/Frame.lean
    `Dat.before_out_kept`). -/
theorem before1_4_C (c : Dev nD) (t : Fin cfg1.N) (h0 : ¬t.val % 48 = 0) (h1 : t.val % 48 = 47) (d) :
    (dat1 V c).before 4 t d = (outsAt1 V c (t.val - 1) (Nat.lt_of_le_of_lt (Nat.sub_le _ _) t.isLt)).1 := by
  have hN : t.val < 144 := lt_of_lt_of_eq t.isLt (show cfg1.N = 144 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1200000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 144 := lt_of_lt_of_eq t.isLt (show cfg1.N = 144 from N_1)
  by_cases h0 : t.val % 48 = 0
  · by_cases h1 : t.val % 48 = 47
    · exfalso; omega
    · rw [outsAt1_A V c t h0 h1]
      unfold out1_A_4 out1_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _ _)
  · by_cases h1 : t.val % 48 = 47
    · rw [outsAt1_C V c t h0 h1]
      simp only [before1_4_C V c t h0 h1]
      unfold out1_C_4 out1_C_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _)
    · rw [outsAt1_B V c t h0 h1]
      simp only [before1_4_B V c t h0 h1]
      unfold out1_B_4 out1_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Run

end
-- ==== Proof.KernelRun.lean ====
/- THE RUN of `Cert.Kernel.main`: the buffer contents at every segment boundary as a fold through @main (`W0` to `W9`), the two
   regions as segments (`reg0`, `reg1`), and the launch: every weakly fair execution ends, with every unscoped buffer at
   `W9` and every semaphore counter at zero (`run_all`); from it the frame (`frame`). -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelAmax
public import proofs.«01_k».proof.Proof.KernelWgrad

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_cst, main_v4, main_v5, main_c, main_v6, main_v7, main_c_0, main_v8, main_v9, main_v10, main_cst_1, main_v11, main_cst_2, main_v12, main_v13, main_v14, main_v15, main_v16, main_c_3, main_v17, main_c_4, main_v18, main_c_5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_v19]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_cst_6, main_v20, main_c_7]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_v21]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_c_8, main_v22, main_c_9, main_v23, main_v24, main_v25, main_c_10, main_v26, main_c_11, main_v27, main_v28, main_v29, main_v30, main_v31, main_v32]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v34]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4` (region 1's entry). -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- A reference that is none of region 1's OUTPUT arrays keeps its entry contents across it: an input window's
    array is never written back (`Dat.arrAt_in`, `A_eq1`); any other buffer is left as is. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- A reference `hostOps2` does not write keeps its contents across it. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)

/-! ### The arguments end as launched: no host stretch writes one and no region may change one (a region reads it
    through an input window or bypasses it) -/

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin (V1 m ρ) c); unfold Pipeline.ΦA
    iintro ⟨Hp, -, Hr⟩
    isplitl [Hr]; · iexact Hr
    iexact Hp
  hout c := by
    rw [Pipeline.ownSems0_none]; refine BI.BIBase.Entails.trans (hout (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: from any memory with zero counters every weakly fair execution of @main on the TensorCores terminates,
    nothing faulting, and every final state has every unscoped TensorCore buffer at the last boundary's contents `W9` and every
    semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- THE FRAME: every weakly fair execution terminates with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W9_main_arg0 m ρ c),
       (h.1 c _ (mem_uc main_arg1 (by decide))).trans (W9_main_arg1 m ρ c),
       (h.1 c _ (mem_uc main_arg2 (by decide))).trans (W9_main_arg2 m ρ c),
       (h.1 c _ (mem_uc main_arg3 (by decide))).trans (W9_main_arg3 m ρ c)⟩, h.2⟩) (run_all m ρ)

end Cert.Kernel.Run

end
-- ==== Proof.KernelIdealAmax.lean ====
/- REGION 0 of `Cert.KernelIdeal.main`, the kernel `_amax_kernel` (24 points), at the contents `V` the region is entered from: the
   whole-body run of each case of its conditionals, what the output and the scratch carried between the points hold after
   each point (`outsAt0`), the proof data (`dat0`, whose invariant `PhiS` names the scratch's contents), the body obligation
   and the invariant's two ends (`hin`, `hout`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__amax_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 24 = 23 :=
  (fun t => by
    have ht : t.val < 24 := Nat.lt_of_lt_of_eq t.isLt N_0
    have e0 : (grid0.coords t 0).val = t.val / 1 % 24 := Pipeline.Grid.coords_val t 0 (by decide) rfl
    simp only [cond0_2, k0_cond3, e0]
    word_cmp
   : ∀ t : Fin grid0.N, cond0_2 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x1 .f32 := (Memref.whole cc0_stg1_0 : Memref sig .tc .smem S1x1 .f32).view
/-- Each window's current staging memref at point `t`, spelled as the pipeline passes it (`bodyAt0`), and its wholeness. -/
abbrev ms0_0 (t : Fin cfg0.N) : Memref sig .tc .vmem S1024x4608 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x4608 .bf16 := Memref.whole cc0_scratch0
/-- The scratch `arg3` the kernel carries between points, as a view: what it holds is stated through it. -/
abbrev VS0_0 : View sig .tc .vmem S16x4608 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg0_0), ((c : Thread nD τ).loc cc1_stg0_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : cond0_0 i) (hc1 : ¬cond0_1 i) (hc2 : ¬cond0_2 i)
    (x0 : Vec F S1024x4608 .bf16) :
    Σ' (L1 : List (View.Piece (Elt F) S1x1 .f32)), { LS0 : List (View.Piece (Elt F) S16x4608 .bf16) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__amax_kernel i arg1 harg1 arg2 harg2 arg3 harg3) K } := by
  refine ⟨[], ?_, fun xi1 E K => ?run⟩
  case run =>
    simp only [cc0__amax_kernel_eq_skeleton]; unfold cc0__amax_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : cond0_0 i) (hc1 : ¬cond0_1 i) (hc2 : ¬cond0_2 i)
    (x0 : Vec F S1024x4608 .bf16) : Vec F S1x1 .f32 :=
  VO0_1.read (Elt F) (VO0_1.writes (Elt F) VO0_1.junk (kernelRun0_A c i arg1 harg1 arg2 harg2 arg3 harg3 hc0 hc1 hc2 x0).1)

/-- Case A's pieces for scratch `arg3`, which the kernel carries between points, cover it: 1 piece of `S16x4608` tiling it (Lib/Ring.lean `Piece.tiledL`). -/
theorem scover0_A_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : cond0_0 i) (hc1 : ¬cond0_1 i) (hc2 : ¬cond0_2 i)
    (x0 : Vec F S1024x4608 .bf16) (y : S16x4608.Idx) :
    ∃ pc ∈ (kernelRun0_A c i arg1 harg1 arg2 harg2 arg3 harg3 hc0 hc1 hc2 x0).2.1, y ∈ pc.1.set :=
  View.cover_of_tiledL (kernelRun0_A c i arg1 harg1 arg2 harg2 arg3 harg3 hc0 hc1 hc2 x0).2.1 S16x4608.size (by sl_kernel_rfl) y

/-- What case A leaves in scratch `arg3`: its pieces read back over junk. -/
def sout0_A_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : cond0_0 i) (hc1 : ¬cond0_1 i) (hc2 : ¬cond0_2 i)
    (x0 : Vec F S1024x4608 .bf16) : Vec F S16x4608 .bf16 :=
  VS0_0.read (Elt F) (VS0_0.writes (Elt F) VS0_0.junk (kernelRun0_A c i arg1 harg1 arg2 harg2 arg3 harg3 hc0 hc1 hc2 x0).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 22: 22 of 24), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : ¬cond0_2 i)
    (x0 : Vec F S1024x4608 .bf16) (xs0 : Vec F S16x4608 .bf16) :
    Σ' (L1 : List (View.Piece (Elt F) S1x1 .f32)), { LS0 : List (View.Piece (Elt F) S16x4608 .bf16) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__amax_kernel i arg1 harg1 arg2 harg2 arg3 harg3) K } := by
  refine ⟨[], ?_, fun xi1 E K => ?run⟩
  case run =>
    simp only [cc0__amax_kernel_eq_skeleton]; unfold cc0__amax_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : ¬cond0_2 i)
    (x0 : Vec F S1024x4608 .bf16) (xs0 : Vec F S16x4608 .bf16) : Vec F S1x1 .f32 :=
  VO0_1.read (Elt F) (VO0_1.writes (Elt F) VO0_1.junk (kernelRun0_B c i arg1 harg1 arg2 harg2 arg3 harg3 hc0 hc1 hc2 x0 xs0).1)

/-- Case B's pieces for scratch `arg3`, which the kernel carries between points, cover it: 1 piece of `S16x4608` tiling it (Lib/Ring.lean `Piece.tiledL`). -/
theorem scover0_B_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : ¬cond0_2 i)
    (x0 : Vec F S1024x4608 .bf16) (xs0 : Vec F S16x4608 .bf16) (y : S16x4608.Idx) :
    ∃ pc ∈ (kernelRun0_B c i arg1 harg1 arg2 harg2 arg3 harg3 hc0 hc1 hc2 x0 xs0).2.1, y ∈ pc.1.set :=
  View.cover_of_tiledL (kernelRun0_B c i arg1 harg1 arg2 harg2 arg3 harg3 hc0 hc1 hc2 x0 xs0).2.1 S16x4608.size (by sl_kernel_rfl) y

/-- What case B leaves in scratch `arg3`: its pieces read back over junk. -/
def sout0_B_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : ¬cond0_2 i)
    (x0 : Vec F S1024x4608 .bf16) (xs0 : Vec F S16x4608 .bf16) : Vec F S16x4608 .bf16 :=
  VS0_0.read (Elt F) (VS0_0.writes (Elt F) VS0_0.junk (kernelRun0_B c i arg1 harg1 arg2 harg2 arg3 harg3 hc0 hc1 hc2 x0 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 23), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) :
    Σ' (L1 : List (View.Piece (Elt F) S1x1 .f32)), { LS0 : List (View.Piece (Elt F) S16x4608 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__amax_kernel i arg1 harg1 arg2 harg2 arg3 harg3) K } := by
  refine ⟨?_, ?_, fun E K => ?run⟩
  case run =>
    simp only [cc0__amax_kernel_eq_skeleton]; unfold cc0__amax_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    iexists _; iexact HS0

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) (y : S1x1.Idx) :
    ∃ pc ∈ (kernelRun0_C c i arg1 harg1 arg2 harg2 arg3 harg3 hc0 hc1 hc2 x0 xs0).1, y ∈ pc.1.set :=
  View.cover_of_tiledL (kernelRun0_C c i arg1 harg1 arg2 harg2 arg3 harg3 hc0 hc1 hc2 x0 xs0).1 S1x1.size (by sl_kernel_rfl) y

/-- What case C leaves in output 1's staging buffer: its pieces read back over junk. -/
def out0_C_1 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) : Vec F S1x1 .f32 :=
  VO0_1.read (Elt F) (VO0_1.writes (Elt F) VO0_1.junk (kernelRun0_C c i arg1 harg1 arg2 harg2 arg3 harg3 hc0 hc1 hc2 x0 xs0).1)

/-- Case C's pieces for scratch `arg3`, which the kernel carries between points, cover it: 1 piece of `S16x4608` tiling it (Lib/Ring.lean `Piece.tiledL`). -/
theorem scover0_C_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) (y : S16x4608.Idx) :
    ∃ pc ∈ (kernelRun0_C c i arg1 harg1 arg2 harg2 arg3 harg3 hc0 hc1 hc2 x0 xs0).2.1, y ∈ pc.1.set :=
  View.cover_of_tiledL (kernelRun0_C c i arg1 harg1 arg2 harg2 arg3 harg3 hc0 hc1 hc2 x0 xs0).2.1 S16x4608.size (by sl_kernel_rfl) y

/-- What case C leaves in scratch `arg3`: its pieces read back over junk. -/
def sout0_C_0 (c : Dev nD) (i : grid0.Coords) (arg1 : Memref sig .tc .vmem S1024x4608 .bf16) (harg1 : arg1.IsWhole) (arg2 : Memref sig .tc .smem S1x1 .f32) (harg2 : arg2.IsWhole) (arg3 : Memref sig .tc .vmem S16x4608 .bf16) (harg3 : arg3.IsWhole) (hc0 : ¬cond0_0 i) (hc1 : cond0_1 i) (hc2 : cond0_2 i)
    (x0 : Vec F S1024x4608 .bf16) (xs0 : Vec F S16x4608 .bf16) : Vec F S16x4608 .bf16 :=
  VS0_0.read (Elt F) (VS0_0.writes (Elt F) VS0_0.junk (kernelRun0_C c i arg1 harg1 arg2 harg2 arg3 harg3 hc0 hc1 hc2 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S16x4608 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 24 = 0 then
      if h1 : 1 ≤ (n + 1) then
        False.elim (by have hN : n + 1 < 24 := lt_of_lt_of_eq hn (show cfg0.N = 24 from N_0); omega)
      else
        if h2 : (n + 1) % 24 = 23 then
          False.elim (by have hN : n + 1 < 24 := lt_of_lt_of_eq hn (show cfg0.N = 24 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 24 = 23 then
          (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2)
      else
        False.elim (by have hN : n + 1 < 24 := lt_of_lt_of_eq hn (show cfg0.N = 24 from N_0); omega)

/-- `outsAt0` at a point of case A: that case's contents. -/
theorem outsAt0_A (c : Dev nD) (t : Fin cfg0.N) (h0 : t.val % 24 = 0) (h1 : ¬1 ≤ t.val) (h2 : ¬t.val % 24 = 23) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 24 = 0) (h1 : 1 ≤ t.val) (h2 : ¬t.val % 24 = 23) :
    outsAt0 V c t.val t.isLt = (out0_B_1 c (grid0.coords t) (ms0_0 t) (hs0_0 t) (ms0_1 t) (hs0_1 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 24 = 0) (h1 : 1 ≤ t.val) (h2 : t.val % 24 = 23) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg0_0), ((c : Thread nD τ).loc cc1_stg0_0) ↦{fullShare} f)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg0_0), ((c : Thread nD τ).loc cc1_stg0_0) ↦{fullShare} f)) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg0_0), ((c : Thread nD τ).loc cc1_stg0_0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 24 := lt_of_lt_of_eq t.isLt (show cfg0.N = 24 from N_0)
  by_cases h0 : t.val % 24 = 0
  · by_cases h1 : 1 ≤ t.val
    · exfalso; omega
    · by_cases h2 : t.val % 24 = 23
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨⟨HS0, HR1, HR2, HR3, HR4, HR5, HR6, HR7, HR8, HR9, HR10, HR11⟩, Hg⟩, Ho, ⟨%d0, H0⟩, ⟨%d1, H1⟩⟩
          iapply ((kernelRun0_A c (grid0.coords t) _ _ _ _ _ _ ((hcond0_0 t).mpr h0) (fun h => h1 ((hcond0_1 t).mp h)) (fun h => h2 ((hcond0_2 t).mp h)) (iblk0 V c 0 t)).2.2 _ Set.univ _)
          isplitl [H0]; · iexact H0
          isplitl [H1]; · iexact H1
          isplitl [HS0]; · iexact HS0
          iintro ⟨H0, H1, ⟨%es0, HS0⟩⟩
          isplitl [HS0 HR1 HR2 HR3 HR4 HR5 HR6 HR7 HR8 HR9 HR10 HR11 Hg]
          · isplitl [HS0 HR1 HR2 HR3 HR4 HR5 HR6 HR7 HR8 HR9 HR10 HR11]
            · isplitl [HS0]
              · unfold owns; iexists _; isplitr
                swap; · iexact HS0
                ipureintro; exact View.read_writes_of_cover _ _ _ _ _ (scover0_A_0 c _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              iexact HR11
            iexact Hg
          isplitl [Ho]; · iexact Ho
          isplitl [H0]; · iexact H0
          iexists _; iexact H1
        · exfalso; have hN : t.val < 24 := lt_of_lt_of_eq t.isLt (show cfg0.N = 24 from N_0); omega
  · by_cases h1 : 1 ≤ t.val
    · by_cases h2 : t.val % 24 = 23
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        by_cases hz : t.val = 0
        · exfalso; have hN : t.val < 24 := lt_of_lt_of_eq t.isLt (show cfg0.N = 24 from N_0); omega
        · rw [PhiS_castSucc V c t, PhiS_pos V c _ _ hz]
          rw [outsAt0_C V c t h0 h1 h2]
          unfold out0_C_1 sout0_C_0; (try dsimp only)
          iintro ⟨⟨⟨HS0, HR1, HR2, HR3, HR4, HR5, HR6, HR7, HR8, HR9, HR10, HR11⟩, Hg⟩, Ho, ⟨%d0, H0⟩, ⟨%d1, H1⟩⟩
          iapply ((kernelRun0_C c (grid0.coords t) _ _ _ _ _ _ (fun h => h0 ((hcond0_0 t).mp h)) ((hcond0_1 t).mpr h1) ((hcond0_2 t).mpr h2) (iblk0 V c 0 t) _).2.2 Set.univ _)
          isplitl [H0]; · iexact H0
          isplitl [H1]; · iexists _; iexact H1
          isplitl [HS0]; · iexact HS0
          iintro ⟨H0, ⟨%e1, H1⟩, ⟨%es0, HS0⟩⟩
          isplitl [HS0 HR1 HR2 HR3 HR4 HR5 HR6 HR7 HR8 HR9 HR10 HR11 Hg]
          · isplitl [HS0 HR1 HR2 HR3 HR4 HR5 HR6 HR7 HR8 HR9 HR10 HR11]
            · isplitl [HS0]
              · unfold owns; iexists _; isplitr
                swap; · iexact HS0
                ipureintro; exact View.read_writes_of_cover _ _ _ _ _ (scover0_C_0 c _ _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              iexact HR11
            iexact Hg
          isplitl [Ho]; · iexact Ho
          isplitl [H0]; · iexact H0
          unfold owns; iexists _; isplitr
          swap; · iexact H1
          ipureintro; exact View.read_writes_of_cover _ _ _ _ _ (cover0_C_1 c _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        by_cases hz : t.val = 0
        · exfalso; have hN : t.val < 24 := lt_of_lt_of_eq t.isLt (show cfg0.N = 24 from N_0); omega
        · rw [PhiS_castSucc V c t, PhiS_pos V c _ _ hz]
          rw [outsAt0_B V c t h0 h1 h2]
          unfold sout0_B_0; (try dsimp only)
          iintro ⟨⟨⟨HS0, HR1, HR2, HR3, HR4, HR5, HR6, HR7, HR8, HR9, HR10, HR11⟩, Hg⟩, Ho, ⟨%d0, H0⟩, ⟨%d1, H1⟩⟩
          iapply ((kernelRun0_B c (grid0.coords t) _ _ _ _ _ _ (fun h => h0 ((hcond0_0 t).mp h)) ((hcond0_1 t).mpr h1) (fun h => h2 ((hcond0_2 t).mp h)) (iblk0 V c 0 t) _).2.2 _ Set.univ _)
          isplitl [H0]; · iexact H0
          isplitl [H1]; · iexact H1
          isplitl [HS0]; · iexact HS0
          iintro ⟨H0, H1, ⟨%es0, HS0⟩⟩
          isplitl [HS0 HR1 HR2 HR3 HR4 HR5 HR6 HR7 HR8 HR9 HR10 HR11 Hg]
          · isplitl [HS0 HR1 HR2 HR3 HR4 HR5 HR6 HR7 HR8 HR9 HR10 HR11]
            · isplitl [HS0]
              · unfold owns; iexists _; isplitr
                swap; · iexact HS0
                ipureintro; exact View.read_writes_of_cover _ _ _ _ _ (scover0_B_0 c _ _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              iexact HR11
            iexact Hg
          isplitl [Ho]; · iexact Ho
          isplitl [H0]; · iexact H0
          iexists _; iexact H1
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR1, HR2, HR3, HR4, HR5, HR6, HR7, HR8, HR9, HR10, HR11⟩, Hg⟩
  isplitl [HS0 HR1 HR2 HR3 HR4 HR5 HR6 HR7 HR8 HR9 HR10 HR11]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    iexact HR11
  iexact Hg

/-- The same after the last point. -/
theorem hout (c : Dev nD) : (dat0 V c).Φ (Fin.last cfg0.N) ⊢ Pipeline.ΦA spec0 c :=
  Phi_out V c _ (by rw [Fin.val_last]; have : cfg0.N = 24 := N_0; omega)

end Regions

end Cert.KernelIdeal.Run

end
-- ==== Proof.KernelIdealWgrad.lean ====
/- REGION 1 of `Cert.KernelIdeal.main`, the kernel `_wgrad_kernel` (3 x 48 points), at the contents `V` the region is entered from: the
   whole-body run of each case of its conditionals, what the two outputs hold after each point (`outsAt1`), the proof data
   (`dat1`) and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__wgrad_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 48) — by arithmetic of the point. -/
theorem hcond1_0 : ∀ t : Fin cfg1.N, cond1_0 (grid1.coords t) ↔ t.val % 48 = 0 :=
  (fun t => by
    have ht : t.val < 144 := Nat.lt_of_lt_of_eq t.isLt N_1
    have e0 : (grid1.coords t 0).val = t.val / 48 % 3 := Pipeline.Grid.coords_val t 0 (by decide) rfl
    have e1 : (grid1.coords t 1).val = t.val / 1 % 48 := Pipeline.Grid.coords_val t 1 (by decide) rfl
    simp only [cond1_0, e0, e1]
    word_cmp
   : ∀ t : Fin grid1.N, cond1_0 (grid1.coords t) ↔ t.val % 48 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 1).val) 47#32)) 0#32) = 1#1
/-- It holds at the points ≡ 47 (mod 48) — by arithmetic of the point. -/
theorem hcond1_1 : ∀ t : Fin cfg1.N, cond1_1 (grid1.coords t) ↔ t.val % 48 = 47 :=
  (fun t => by
    have ht : t.val < 144 := Nat.lt_of_lt_of_eq t.isLt N_1
    have e0 : (grid1.coords t 0).val = t.val / 48 % 3 := Pipeline.Grid.coords_val t 0 (by decide) rfl
    have e1 : (grid1.coords t 1).val = t.val / 1 % 48 := Pipeline.Grid.coords_val t 1 (by decide) rfl
    simp only [cond1_1, e0, e1]
    word_cmp
   : ∀ t : Fin grid1.N, cond1_1 (grid1.coords t) ↔ t.val % 48 = 47)

/-! ## The kernel body on any staging memrefs: a subtype the run finds -/

/-- One staging buffer of output window 4, through which its contents are stated (`View.read_writes_of_cover`: the
    choice does not matter). -/
abbrev VO1_4 : View sig .tc .vmem S2048x1536 .f32 := (Memref.whole cc1_stg4_0 : Memref sig .tc .vmem S2048x1536 .f32).view
/-- One staging buffer of output window 5, through which its contents are stated (`View.read_writes_of_cover`: the
    choice does not matter). -/
abbrev VO1_5 : View sig .tc .vmem S512x1536 .fp8e5m2 := (Memref.whole cc1_stg5_0 : Memref sig .tc .vmem S512x1536 .fp8e5m2).view
/-- Each window's current staging memref at point `t`, spelled as the pipeline passes it (`bodyAt1`), and its wholeness. -/
abbrev ms1_0 (t : Fin cfg1.N) : Memref sig .tc .smem S2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1536 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1536 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1536 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1536 .fp8e5m2 := win1_5.stage (cfg1.slots t 5)
abbrev hs1_5 (t : Fin cfg1.N) : (ms1_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 48, 96), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) :
    Σ' (L4 : List (View.Piece (Elt F) S2048x1536 .f32)), { L5 : List (View.Piece (Elt F) S512x1536 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__wgrad_kernel i arg2 harg2 arg3 harg3 arg4 harg4 arg5 harg5 arg6 harg6 arg7 harg7) K } := by
  refine ⟨?_, ?_, fun E K => ?run⟩
  case run =>
    simp only [cc1__wgrad_kernel_eq_skeleton]; unfold cc1__wgrad_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (2 stores of `S2048x1536`, checked by the kernel's evaluation: Lib/Ring.lean `Piece.tiledL`, linear in the pieces, through a loop's `@[irreducible]` trip theorem too), so they cover it. -/
theorem cover1_A_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) (y : S2048x1536.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S2048x1536.size (by sl_kernel_rfl) y

/-- What case A leaves in output 4's staging buffer: its pieces read back over junk. -/
def out1_A_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) : Vec F S2048x1536 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's pieces for output 5 tile its block (1 store of `S512x1536`, checked by the kernel's evaluation: Lib/Ring.lean `Piece.tiledL`, linear in the pieces, through a loop's `@[irreducible]` trip theorem too), so they cover it. -/
theorem cover1_A_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) (y : S512x1536.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S512x1536.size (by sl_kernel_rfl) y

/-- What case A leaves in output 5's staging buffer: its pieces read back over junk. -/
def out1_A_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : cond1_0 i) (hc1 : ¬cond1_1 i)
    (x0 : Vec F S2 .f32) (x1 : Vec F S512x2048 .fp8e4m3) (x2 : Vec F S512x1536 .bf16) (x3 : Vec F S2048x1536 .f32) : Vec F S512x1536 .fp8e5m2 :=
  VO1_5.read (Elt F) (VO1_5.writes (Elt F) VO1_5.junk (kernelRun1_A c i arg2 harg2 arg3 harg3 arg4 harg4 arg5 harg5 arg6 harg6 arg7 harg7 hc0 hc1 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 142: 138 of 144), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) :
    Σ' (L4 : List (View.Piece (Elt F) S2048x1536 .f32)), { L5 : List (View.Piece (Elt F) S512x1536 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__wgrad_kernel i arg2 harg2 arg3 harg3 arg4 harg4 arg5 harg5 arg6 harg6 arg7 harg7) K } := by
  refine ⟨?_, ?_, fun E K => ?run⟩
  case run =>
    simp only [cc1__wgrad_kernel_eq_skeleton]; unfold cc1__wgrad_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case B's pieces for output 4 tile its block (1 store of `S2048x1536`, checked by the kernel's evaluation: Lib/Ring.lean `Piece.tiledL`, linear in the pieces, through a loop's `@[irreducible]` trip theorem too), so they cover it. -/
theorem cover1_B_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) (y : S2048x1536.Idx) :
    ∃ pc ∈ (kernelRun1_B c i arg2 harg2 arg3 harg3 arg4 harg4 arg5 harg5 arg6 harg6 arg7 harg7 hc0 hc1 x0 x1 x2 x3 xo4).1, y ∈ pc.1.set :=
  View.cover_of_tiledL (kernelRun1_B c i arg2 harg2 arg3 harg3 arg4 harg4 arg5 harg5 arg6 harg6 arg7 harg7 hc0 hc1 x0 x1 x2 x3 xo4).1 S2048x1536.size (by sl_kernel_rfl) y

/-- What case B leaves in output 4's staging buffer: its pieces read back over junk. -/
def out1_B_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) : Vec F S2048x1536 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xo4).1)

/-- Case B's pieces for output 5 tile its block (1 store of `S512x1536`, checked by the kernel's evaluation: Lib/Ring.lean `Piece.tiledL`, linear in the pieces, through a loop's `@[irreducible]` trip theorem too), so they cover it. -/
theorem cover1_B_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) (y : S512x1536.Idx) :
    ∃ pc ∈ (kernelRun1_B c i arg2 harg2 arg3 harg3 arg4 harg4 arg5 harg5 arg6 harg6 arg7 harg7 hc0 hc1 x0 x1 x2 x3 xo4).2.1, y ∈ pc.1.set :=
  View.cover_of_tiledL (kernelRun1_B c i arg2 harg2 arg3 harg3 arg4 harg4 arg5 harg5 arg6 harg6 arg7 harg7 hc0 hc1 x0 x1 x2 x3 xo4).2.1 S512x1536.size (by sl_kernel_rfl) y

/-- What case B leaves in output 5's staging buffer: its pieces read back over junk. -/
def out1_B_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : ¬cond1_1 i)
    (x0 : Vec F S2 .f32) (x1 : Vec F S512x2048 .fp8e4m3) (x2 : Vec F S512x1536 .bf16) (x3 : Vec F S2048x1536 .f32) (xo4 : Vec F S2048x1536 .f32) : Vec F S512x1536 .fp8e5m2 :=
  VO1_5.read (Elt F) (VO1_5.writes (Elt F) VO1_5.junk (kernelRun1_B c i arg2 harg2 arg3 harg3 arg4 harg4 arg5 harg5 arg6 harg6 arg7 harg7 hc0 hc1 x0 x1 x2 x3 xo4).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 47, 95, 143), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) :
    Σ' (L4 : List (View.Piece (Elt F) S2048x1536 .f32)), { L5 : List (View.Piece (Elt F) S512x1536 .fp8e5m2) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__wgrad_kernel i arg2 harg2 arg3 harg3 arg4 harg4 arg5 harg5 arg6 harg6 arg7 harg7) K } := by
  refine ⟨?_, ?_, fun E K => ?run⟩
  case run =>
    simp only [cc1__wgrad_kernel_eq_skeleton]; unfold cc1__wgrad_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case C's pieces for output 4 tile its block (2 stores of `S2048x1536`, checked by the kernel's evaluation: Lib/Ring.lean `Piece.tiledL`, linear in the pieces, through a loop's `@[irreducible]` trip theorem too), so they cover it. -/
theorem cover1_C_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) (y : S2048x1536.Idx) :
    ∃ pc ∈ (kernelRun1_C c i arg2 harg2 arg3 harg3 arg4 harg4 arg5 harg5 arg6 harg6 arg7 harg7 hc0 hc1 x0 x1 x2 x3 xo4).1, y ∈ pc.1.set :=
  View.cover_of_tiledL (kernelRun1_C c i arg2 harg2 arg3 harg3 arg4 harg4 arg5 harg5 arg6 harg6 arg7 harg7 hc0 hc1 x0 x1 x2 x3 xo4).1 S2048x1536.size (by sl_kernel_rfl) y

/-- What case C leaves in output 4's staging buffer: its pieces read back over junk. -/
def out1_C_4 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) : Vec F S2048x1536 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xo4).1)

/-- Case C's pieces for output 5 tile its block (1 store of `S512x1536`, checked by the kernel's evaluation: Lib/Ring.lean `Piece.tiledL`, linear in the pieces, through a loop's `@[irreducible]` trip theorem too), so they cover it. -/
theorem cover1_C_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) (y : S512x1536.Idx) :
    ∃ pc ∈ (kernelRun1_C c i arg2 harg2 arg3 harg3 arg4 harg4 arg5 harg5 arg6 harg6 arg7 harg7 hc0 hc1 x0 x1 x2 x3 xo4).2.1, y ∈ pc.1.set :=
  View.cover_of_tiledL (kernelRun1_C c i arg2 harg2 arg3 harg3 arg4 harg4 arg5 harg5 arg6 harg6 arg7 harg7 hc0 hc1 x0 x1 x2 x3 xo4).2.1 S512x1536.size (by sl_kernel_rfl) y

/-- What case C leaves in output 5's staging buffer: its pieces read back over junk. -/
def out1_C_5 (c : Dev nD) (i : grid1.Coords) (arg2 : Memref sig .tc .smem S2 .f32) (harg2 : arg2.IsWhole) (arg3 : Memref sig .tc .vmem S512x2048 .fp8e4m3) (harg3 : arg3.IsWhole) (arg4 : Memref sig .tc .vmem S512x1536 .bf16) (harg4 : arg4.IsWhole) (arg5 : Memref sig .tc .vmem S2048x1536 .f32) (harg5 : arg5.IsWhole) (arg6 : Memref sig .tc .vmem S2048x1536 .f32) (harg6 : arg6.IsWhole) (arg7 : Memref sig .tc .vmem S512x1536 .fp8e5m2) (harg7 : arg7.IsWhole) (hc0 : ¬cond1_0 i) (hc1 : cond1_1 i)
    (x0 : Vec F S2 .f32) (x1 : Vec F S512x2048 .fp8e4m3) (x2 : Vec F S512x1536 .bf16) (x3 : Vec F S2048x1536 .f32) (xo4 : Vec F S2048x1536 .f32) : Vec F S512x1536 .fp8e5m2 :=
  VO1_5.read (Elt F) (VO1_5.writes (Elt F) VO1_5.junk (kernelRun1_C c i arg2 harg2 arg3 harg3 arg4 harg4 arg5 harg5 arg6 harg6 arg7 harg7 hc0 hc1 x0 x1 x2 x3 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2048x1536 .f32 × Vec F S512x1536 .fp8e5m2
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 48 = 0 then
      if h1 : (n + 1) % 48 = 47 then
        False.elim (by have hN : n + 1 < 144 := lt_of_lt_of_eq hn (show cfg1.N = 144 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 48 = 47 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1)

/-- `outsAt1` at a point of case A: that case's contents. -/
theorem outsAt1_A (c : Dev nD) (t : Fin cfg1.N) (h0 : t.val % 48 = 0) (h1 : ¬t.val % 48 = 47) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 48 = 0) (h1 : ¬t.val % 48 = 47) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).1, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 48 = 0) (h1 : t.val % 48 = 47) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point of case B output 4's current staging buffer holds what the body left at the point before: the point is
    not the first, the buffer was not written back between (`flush1_4`), the window is live and uncut (Lib/Pipeline/Frame.lean
    `Dat.before_out_kept`). -/
theorem before1_4_B (c : Dev nD) (t : Fin cfg1.N) (h0 : ¬t.val % 48 = 0) (h1 : ¬t.val % 48 = 47) (d) :
    (dat1 V c).before 4 t d = (outsAt1 V c (t.val - 1) (Nat.lt_of_le_of_lt (Nat.sub_le _ _) t.isLt)).1 := by
  have hN : t.val < 144 := lt_of_lt_of_eq t.isLt (show cfg1.N = 144 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a point of case C output 4's current staging buffer holds what the body left at the point before: the point is
    not the first, the buffer was not written back between (`flush1_4`), the window is live and uncut (Lib/Pipeline/Frame.lean
    `Dat.before_out_kept`). -/
theorem before1_4_C (c : Dev nD) (t : Fin cfg1.N) (h0 : ¬t.val % 48 = 0) (h1 : t.val % 48 = 47) (d) :
    (dat1 V c).before 4 t d = (outsAt1 V c (t.val - 1) (Nat.lt_of_le_of_lt (Nat.sub_le _ _) t.isLt)).1 := by
  have hN : t.val < 144 := lt_of_lt_of_eq t.isLt (show cfg1.N = 144 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1200000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 144 := lt_of_lt_of_eq t.isLt (show cfg1.N = 144 from N_1)
  by_cases h0 : t.val % 48 = 0
  · by_cases h1 : t.val % 48 = 47
    · exfalso; omega
    · rw [outsAt1_A V c t h0 h1]
      unfold out1_A_4 out1_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _ _)
  · by_cases h1 : t.val % 48 = 47
    · rw [outsAt1_C V c t h0 h1]
      simp only [before1_4_C V c t h0 h1]
      unfold out1_C_4 out1_C_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _)
    · rw [outsAt1_B V c t h0 h1]
      simp only [before1_4_B V c t h0 h1]
      unfold out1_B_4 out1_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.KernelIdealRun.lean ====
/- THE RUN of `Cert.KernelIdeal.main`: the buffer contents at every segment boundary as a fold through @main (`W0` to `W9`), the two
   regions as segments (`reg0`, `reg1`), and the launch: every weakly fair execution ends, with every unscoped buffer at
   `W9` and every semaphore counter at zero (`run_all`); from it the frame (`frame`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdealAmax
public import proofs.«01_k».proof.Proof.KernelIdealWgrad

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_cst, main_v4, main_v5, main_c, main_v6, main_v7, main_c_0, main_v8, main_v9, main_v10, main_cst_1, main_v11, main_cst_2, main_v12, main_v13, main_v14, main_v15, main_v16, main_c_3, main_v17, main_c_4, main_v18, main_c_5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_v19]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_cst_6, main_v20, main_c_7]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_v21]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_c_8, main_v22, main_c_9, main_v23, main_v24, main_v25, main_c_10, main_v26, main_c_11, main_v27, main_v28, main_v29, main_v30, main_v31, main_v32]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v34]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4` (region 1's entry). -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- A reference that is none of region 1's OUTPUT arrays keeps its entry contents across it: an input window's
    array is never written back (`Dat.arrAt_in`, `A_eq1`); any other buffer is left as is. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- A reference `hostOps2` does not write keeps its contents across it. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)

/-! ### The arguments end as launched: no host stretch writes one and no region may change one (a region reads it
    through an input window or bypasses it) -/

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin (V1 m ρ) c); unfold Pipeline.ΦA
    iintro ⟨Hp, -, Hr⟩
    isplitl [Hr]; · iexact Hr
    iexact Hp
  hout c := by
    rw [Pipeline.ownSems0_none]; refine BI.BIBase.Entails.trans (hout (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: from any memory with zero counters every weakly fair execution of @main on the TensorCores terminates,
    nothing faulting, and every final state has every unscoped TensorCore buffer at the last boundary's contents `W9` and every
    semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- THE FRAME: every weakly fair execution terminates with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W9_main_arg0 m ρ c),
       (h.1 c _ (mem_uc main_arg1 (by decide))).trans (W9_main_arg1 m ρ c),
       (h.1 c _ (mem_uc main_arg2 (by decide))).trans (W9_main_arg2 m ρ c),
       (h.1 c _ (mem_uc main_arg3 (by decide))).trans (W9_main_arg3 m ρ c)⟩, h.2⟩) (run_all m ρ)

end Cert.KernelIdeal.Run

end
-- ==== Proof.AmaxValue.lean ====
/- What the first kernel (`_amax_kernel`) computes, over the extended reals: the one word it returns is the least upper
   bound of the absolute values of all its input's elements. The scratch after point `n` is bounded by `y` exactly when
   every element of the blocks 0 … n is, in absolute value (`scratch_le`); the last point reduces the scratch to one
   word (`word_le`), which the only write-back stores (`amax_le`). Bounds are compared instead of values, so no sum or
   maximum is ever re-indexed. -/
module

public import proofs.«01_k».proof.Proof.KernelIdealAmax
public import Idealize.ShloMosaic.Lib.Pipeline.Value
public import Idealize.ShloMosaic.Lib.ValueIdx
public import Idealize.ShloMosaic.Lib.Tactic
public import Idealize.ShloMosaic.PureOps.Reduce
public import Idealize.ShloMosaic.PureOps.Ideal.Laws

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The cases' terms as payloads, at any float type -/

section Cases
variable {F : FTy → Type} [FloatOps F]

theorem sout0_A (c : Dev nD) (i : grid0.Coords) (a1 : Memref sig .tc .vmem S1024x4608 .bf16) (h1 : a1.IsWhole)
    (a2 : Memref sig .tc .smem S1x1 .f32) (h2 : a2.IsWhole) (a3 : Memref sig .tc .vmem S16x4608 .bf16) (h3 : a3.IsWhole)
    (hc0 : cond0_0 i) (hc1 : ¬cond0_1 i) (hc2 : ¬cond0_2 i) (x : Vec F S1024x4608 .bf16) :
    sout0_A_0 c i a1 h1 a2 h2 a3 h3 hc0 hc1 hc2 x = k0_pay2 x := by
  unfold sout0_A_0
  rw [View.read_writes_eq_canon _ _ _ (scover0_A_0 c i a1 h1 a2 h2 a3 h3 hc0 hc1 hc2 x)]
  unfold kernelRun0_A
  dsimp only
  sl_unfold_words
  rw [View.canon_unit_zero (S := S16x4608) hz]
  simp only [View.readAt_eq_ld, h1.read_unread, View.ld_unit_zero (S := S1024x4608) hz]

theorem sout0_B (c : Dev nD) (i : grid0.Coords) (a1 : Memref sig .tc .vmem S1024x4608 .bf16) (h1 : a1.IsWhole)
    (a2 : Memref sig .tc .smem S1x1 .f32) (h2 : a2.IsWhole) (a3 : Memref sig .tc .vmem S16x4608 .bf16) (h3 : a3.IsWhole)
    (hc0 : ¬cond0_0 i) (hc1 : cond0_1 i) (hc2 : ¬cond0_2 i) (x : Vec F S1024x4608 .bf16) (s : Vec F S16x4608 .bf16) :
    sout0_B_0 c i a1 h1 a2 h2 a3 h3 hc0 hc1 hc2 x s = k0_pay3 x s := by
  unfold sout0_B_0
  rw [View.read_writes_eq_canon _ _ _ (scover0_B_0 c i a1 h1 a2 h2 a3 h3 hc0 hc1 hc2 x s)]
  unfold kernelRun0_B
  dsimp only
  sl_unfold_words
  rw [View.canon_unit_zero (S := S16x4608) hz]
  simp only [View.readAt_eq_ld, h1.read_unread, h3.read_unread, View.ld_unit_zero (S := S1024x4608) hz,
    View.ld_unit_zero (S := S16x4608) hz]

theorem out0_C (c : Dev nD) (i : grid0.Coords) (a1 : Memref sig .tc .vmem S1024x4608 .bf16) (h1 : a1.IsWhole)
    (a2 : Memref sig .tc .smem S1x1 .f32) (h2 : a2.IsWhole) (a3 : Memref sig .tc .vmem S16x4608 .bf16) (h3 : a3.IsWhole)
    (hc0 : ¬cond0_0 i) (hc1 : cond0_1 i) (hc2 : cond0_2 i) (x : Vec F S1024x4608 .bf16) (s : Vec F S16x4608 .bf16) :
    out0_C_1 c i a1 h1 a2 h2 a3 h3 hc0 hc1 hc2 x s = fun _ => k0_pay4 (k0_pay3 x s) := by
  unfold out0_C_1
  rw [View.read_writes_eq_canon _ _ _ (cover0_C_1 c i a1 h1 a2 h2 a3 h3 hc0 hc1 hc2 x s)]
  unfold kernelRun0_C
  dsimp only
  sl_unfold_words
  rw [View.canon_unit_zero (S := S1x1) hz]
  simp only [View.readAt_eq_ld, h1.read_unread, h3.read_unread, View.ld_unit_zero (S := S1024x4608) hz,
    View.ld_unit_zero (S := S16x4608) hz, View.readCov_unit_zero (S := S16x4608) _ hz]
  rfl

theorem sout0_C (c : Dev nD) (i : grid0.Coords) (a1 : Memref sig .tc .vmem S1024x4608 .bf16) (h1 : a1.IsWhole)
    (a2 : Memref sig .tc .smem S1x1 .f32) (h2 : a2.IsWhole) (a3 : Memref sig .tc .vmem S16x4608 .bf16) (h3 : a3.IsWhole)
    (hc0 : ¬cond0_0 i) (hc1 : cond0_1 i) (hc2 : cond0_2 i) (x : Vec F S1024x4608 .bf16) (s : Vec F S16x4608 .bf16) :
    sout0_C_0 c i a1 h1 a2 h2 a3 h3 hc0 hc1 hc2 x s = k0_pay3 x s := by
  unfold sout0_C_0
  rw [View.read_writes_eq_canon _ _ _ (scover0_C_0 c i a1 h1 a2 h2 a3 h3 hc0 hc1 hc2 x s)]
  unfold kernelRun0_C
  dsimp only
  sl_unfold_words
  rw [View.canon_unit_zero (S := S16x4608) hz]
  simp only [View.readAt_eq_ld, h1.read_unread, h3.read_unread, View.ld_unit_zero (S := S1024x4608) hz,
    View.ld_unit_zero (S := S16x4608) hz]

end Cases

/-! ## Maxima by their upper bounds -/

/-- A reshape has the same elements, so the same upper bounds. -/
theorem forall_shapeCast {s t : Shape} {α : Type} (x : s.Idx → α) (h : s.ShapeCasts t) (P : α → Prop) :
    (∀ j, P (shapeCast t x h j)) ↔ ∀ i, P (x i) := by
  constructor
  · intro H i
    have e := congrFun (shapeCast_shapeCast x h (by exact h.symm)) i
    rw [← e]; exact H _
  · intro H j; exact H _

/-- A maximum over some axes, started from −∞, is bounded by `y` exactly when what it runs over is. -/
theorem multiReduction_le {s t : Shape} {φ : FTy} {axes : List (Fin s.rank)} (src : FVec Ideal s φ) (acc : BitVec φ.bits)
    (h : s.Reduces axes t) (hφ : FKind.Formats φ) (hacc : acc = FKind.maximumf.neutral φ hφ)
    (hb : (FloatOps.ofBits φ acc : Ideal φ) = (⊥ : EReal)) (j : t.Idx) (y : EReal) :
    (multiReduction .maximumf axes t src acc h hφ hacc j : EReal) ≤ y ↔ ∀ i, h.drop i = j → (src i : EReal) ≤ y := by
  show (reduceFold h (max : EReal → EReal → EReal) (FloatOps.ofBits φ acc : Ideal φ) src j : EReal) ≤ y ↔ _
  rw [hb, reduceFold_eq_fold, Finset.fold_max_le]
  simp

/-- The same for the host's maximum. -/
theorem hostReduce_le {s t u : Shape} {axes : List (Fin s.rank)} (src : s.Idx → EReal) (init : u.Idx → EReal)
    (h : s.ReducesTo axes t) (hu : 0 < u.numel) (hb : ∀ k, init k = ⊥) (j : t.Idx) (y : EReal) :
    Host.reduce (max : EReal → EReal → EReal) src init h hu j ≤ y ↔ ∀ i, h.drop i = j → src i ≤ y := by
  rw [Host.reduce_eq_fold, hb, Finset.fold_max_le]
  simp

theorem ofBits_bf16_bot : (FloatOps.ofBits .bf16 0xFF80#16 : Ideal .bf16) = (⊥ : EReal) := by
  show Ideal.ofBits .bf16 0xFF80#16 = _
  simp [Ideal.ofBits, Ideal.ieee]

theorem ofBits_f32_bot : (FloatOps.ofBits .f32 0xFF800000#32 : Ideal .f32) = (⊥ : EReal) := by
  show Ideal.ofBits .f32 0xFF800000#32 = _
  simp [Ideal.ofBits, Ideal.ieee]

/-- An extended real's absolute value, as the kernel takes it. -/
def abs (x : EReal) : EReal := max x (-x)

/-- The block's part: its elements are bounded exactly when the block's absolute values are. -/
theorem pay1_le (x : Vec Ideal S1024x4608 .bf16) (y : EReal) :
    (∀ j, (k0_pay1 x j : EReal) ≤ y) ↔ ∀ i, abs (x i) ≤ y := by
  unfold k0_pay1
  refine (forall_congr' fun j => multiReduction_le _ _ _ _ _ ofBits_bf16_bot j y).trans ?_
  refine Iff.trans ⟨fun H i => H _ i rfl, fun H j i _ => H i⟩ ?_
  refine (forall_shapeCast _ _ (fun v : EReal => v ≤ y)).trans ?_
  rw [shapeCast_self]
  rfl

theorem pay3_le (x : Vec Ideal S1024x4608 .bf16) (s : Vec Ideal S16x4608 .bf16) (y : EReal) :
    (∀ j, (k0_pay3 x s j : EReal) ≤ y) ↔ (∀ j, (s j : EReal) ≤ y) ∧ ∀ i, abs (x i) ≤ y := by
  rw [← pay1_le, ← forall_and]
  unfold k0_pay3
  simp only [shapeCast_self]
  exact forall_congr' fun j => max_le_iff

theorem word_le (s : Vec Ideal S16x4608 .bf16) (y : EReal) :
    (k0_pay4 s : EReal) ≤ y ↔ ∀ j, (s j : EReal) ≤ y := by
  unfold k0_pay4
  refine (multiReduction_le _ _ _ (.inl rfl) rfl ofBits_f32_bot _ y).trans ?_
  refine Iff.trans ⟨fun H i => H i (funext fun a => Fin.ext ?_), fun H i _ => H i⟩ ?_
  · match a with
    | ⟨0, _⟩ => exact (Nat.lt_one_iff.mp (Fin.isLt _)).trans (Nat.lt_one_iff.mp (Fin.isLt _)).symm
  exact forall_shapeCast _ _ (fun v : EReal => v ≤ y)

/-! ## The scratch after each point, and the word written back -/

variable (V : (c : Dev nD) → (b : Ref sig .tc) → Buf (Elt Ideal) ((c : Thread nD τ).loc b))

/-- After point `n` the scratch is bounded by `y` exactly when every element of the blocks 0 … n is, in absolute value. -/
theorem scratch_le (c : Dev nD) (y : EReal) : ∀ (n : ℕ) (hn : n < cfg0.N),
    (∀ j, ((outsAt0 V c n hn).2 j : EReal) ≤ y) ↔ ∀ t : Fin cfg0.N, t.val ≤ n → ∀ i, abs (iblk0 V c 0 t i) ≤ y
  | 0, hn => by
    rw [outsAt0_A V c ⟨0, hn⟩ rfl (by simp) (by simp)]
    dsimp only
    rw [sout0_A]
    unfold k0_pay2
    rw [shapeCast_self]
    refine (pay1_le _ y).trans ⟨fun H t ht i => ?_, fun H i => H ⟨0, hn⟩ le_rfl i⟩
    obtain rfl : t = ⟨0, hn⟩ := Fin.ext (Nat.le_zero.mp ht)
    exact H i
  | n + 1, hn => by
    have hN : cfg0.N = 24 := N_0
    have key : (∀ j, (k0_pay3 (iblk0 V c 0 ⟨n + 1, hn⟩) (outsAt0 V c n (Nat.lt_of_succ_lt hn)).2 j : EReal) ≤ y)
        ↔ ∀ t : Fin cfg0.N, t.val ≤ n + 1 → ∀ i, abs (iblk0 V c 0 t i) ≤ y := by
      refine (pay3_le _ _ y).trans ((and_congr_left fun _ => scratch_le c y n _).trans ⟨fun H t ht i => ?_, fun H => ⟨fun t ht i => H t (by omega) i, fun i => H ⟨n + 1, hn⟩ le_rfl i⟩⟩)
      rcases Nat.lt_or_ge n t.val with h | h
      · obtain rfl : t = ⟨n + 1, hn⟩ := Fin.ext (by simp only; omega)
        exact H.2 i
      · exact H.1 t h i
    have h0 : ¬(⟨n + 1, hn⟩ : Fin cfg0.N).val % 24 = 0 := by dsimp only; omega
    have h1 : 1 ≤ (⟨n + 1, hn⟩ : Fin cfg0.N).val := by dsimp only; omega
    by_cases h2 : (⟨n + 1, hn⟩ : Fin cfg0.N).val % 24 = 23
    · rw [outsAt0_C V c ⟨n + 1, hn⟩ h0 h1 h2]
      dsimp only
      rw [sout0_C]
      exact key
    · rw [outsAt0_B V c ⟨n + 1, hn⟩ h0 h1 h2]
      dsimp only
      rw [sout0_B]
      exact key

/-- The word the last point stores: the least upper bound of the blocks' absolute values. -/
theorem last_le (c : Dev nD) (hn : 23 < cfg0.N) (j : S1x1.Idx) (y : EReal) :
    ((outsAt0 V c 23 hn).1 j : EReal) ≤ y ↔ ∀ t : Fin cfg0.N, ∀ i, abs (iblk0 V c 0 t i) ≤ y := by
  have hN : cfg0.N = 24 := N_0
  have e : (outsAt0 V c 23 hn).1 j = k0_pay4 (outsAt0 V c 23 hn).2 := by
    rw [outsAt0_C V c ⟨23, hn⟩ (by simp) (by simp) rfl]
    dsimp only
    rw [out0_C, sout0_C]
  rw [e, word_le, scratch_le V c y 23 hn]
  exact ⟨fun H t i => H t (by have := t.isLt; omega) i, fun H t _ i => H t i⟩

theorem lt23 : 23 < cfg0.N := by rw [show cfg0.N = 24 from N_0]; decide

/-- The one write-back, at the last point, writes that word: the array has one element. -/
theorem flushed0_eq (c : Dev nD) (t : Fin cfg0.N) (hf : (cfg0.win 1).flush t = true) :
    (dat0 V c).flushed 1 t = ((cfg0.win 1).blk t).view.read (Elt Ideal) ((outsAt0 V c 23 lt23).1 : Vec Ideal S1x1 .f32) := by
  have hN : cfg0.N = 24 := N_0
  have h3 : t.val = 23 := by have := (flush0_1 t).mp hf; have := t.isLt; omega
  obtain rfl : t = ⟨23, lt23⟩ := Fin.ext h3
  show (cfg0.win 1).cut (grid0.coords ⟨23, lt23⟩) ((dat0 V c).after 1 ⟨23, lt23⟩) = _
  rw [after0_1]
  have hz' : (fun a => win0_1.index ⟨23, lt23⟩ a * main_v2.ty.shape.size a) = fun _ => 0 := funext fun a => by fin_cases a <;> rfl
  exact (Memref.read_access_unit_zero (Elt Ideal) main_v2 hz' (fun a => by rw [congrFun hz' a]; simp) _).symm

theorem amax_arr (c : Dev nD) : (dat0 V c).arrAt 1 cfg0.N = ((outsAt0 V c 23 lt23).1 : Vec Ideal S1x1 .f32) :=
  (dat0 V c).arrAt_eq_of_cover 1 ((outsAt0 V c 23 lt23).1 : Vec Ideal S1x1 .f32) (flushed0_eq V c) fun i =>
    ⟨⟨23, lt23⟩, (flush0_1 ⟨23, lt23⟩).mpr rfl, by
      show i ∈ ((View.whole main_v2).slice (win0_1.rect ⟨23, lt23⟩)).set
      rw [View.set_slice_whole, Rect.mem_set_unit]
      intro a
      have h0 : (i 0 : Nat) < 1 := (i 0).isLt
      have h1 : (i 1 : Nat) < 1 := (i 1).isLt
      match a with
      | ⟨0, _⟩ => show win0_1.index ⟨23, lt23⟩ 0 * 1 ≤ (i 0 : Nat) ∧ (i 0 : Nat) < win0_1.index ⟨23, lt23⟩ 0 * 1 + 1
                  rw [show win0_1.index ⟨23, lt23⟩ 0 = 0 from rfl]; omega
      | ⟨1, _⟩ => show win0_1.index ⟨23, lt23⟩ 1 * 1 ≤ (i 1 : Nat) ∧ (i 1 : Nat) < win0_1.index ⟨23, lt23⟩ 1 * 1 + 1
                  rw [show win0_1.index ⟨23, lt23⟩ 1 = 0 from rfl]; omega⟩

theorem coord0 (t : Fin cfg0.N) : win0_0.index t 0 = t.val ∧ win0_0.index t 1 = 0 := by
  have hN : cfg0.N = 24 := N_0
  refine ⟨?_, rfl⟩
  have ht : t.val < 24 := by have := t.isLt; omega
  have e := Pipeline.Grid.coords_val (G := grid0) t 0 (S := 1) (B := 24) rfl rfl
  show (BitVec.ofNat 32 (grid0.coords t 0).val).toNat = t.val
  rw [e, BitVec.toNat_ofNat]
  omega

/-- Block `t` of the input read at `(r, l)` is the array at `(1024 t + r, l)`. -/
theorem iblk0_apply (c : Dev nD) (t : Fin cfg0.N) (i : S1024x4608.Idx) (k : S24576x4608.Idx)
    (h0 : (k 0 : Nat) = 1024 * t.val + i 0) (h1 : (k 1 : Nat) = i 1) : iblk0 V c 0 t i = V c main_v1 k := by
  unfold iblk0
  rw [View.read_apply]
  show V c main_v1 _ = V c main_v1 k
  congr 1
  funext a
  apply Fin.ext
  match a with
  | ⟨0, _⟩ => show win0_0.index t 0 * 1024 + 1 * (i 0).val = (k 0).val; rw [(coord0 t).1, h0]; omega
  | ⟨1, _⟩ => show win0_0.index t 1 * 4608 + 1 * (i 1).val = (k 1).val; rw [(coord0 t).2, h1]; omega

/-- THE FIRST KERNEL'S RESULT: the least upper bound of the absolute values of its whole input. -/
theorem amax_le (c : Dev nD) (A : Vec Ideal S1x1 .f32) (hA : (dat0 V c).arrAt 1 cfg0.N = A) (j : S1x1.Idx) (y : EReal) :
    (A j : EReal) ≤ y ↔ ∀ k : S24576x4608.Idx, abs (V c main_v1 k) ≤ y := by
  have hN : cfg0.N = 24 := N_0
  obtain rfl : _ = A := (amax_arr V c).symm.trans hA
  refine (last_le V c lt23 j y).trans ⟨fun H k => ?_, fun H t i => ?_⟩
  · have hk : (k 0 : Nat) < 24576 := (k 0).isLt
    have hk1 : (k 1 : Nat) < 4608 := (k 1).isLt
    have := H ⟨(k 0 : Nat) / 1024, by omega⟩ (ValueIdx.ix2 ⟨(k 0 : Nat) % 1024, by omega⟩ ⟨k 1, hk1⟩)
    rwa [iblk0_apply V c _ _ k (by show (k 0 : Nat) = 1024 * ((k 0 : Nat) / 1024) + (k 0 : Nat) % 1024; omega) rfl] at this
  · have ht := t.isLt
    have hi : (i 0 : Nat) < 1024 := (i 0).isLt
    have hi1 : (i 1 : Nat) < 4608 := (i 1).isLt
    rw [iblk0_apply V c t i (ValueIdx.ix2 ⟨1024 * t.val + (i 0 : Nat), by omega⟩ ⟨i 1, hi1⟩) rfl rfl]
    exact H _

end Cert.KernelIdeal.Value

end
-- ==== Proof.WgradCases.lean ====
/- What each case of the second kernel (`_wgrad_kernel`) leaves in its two output blocks, as the payloads of its stores:
   the codes block at every point, the accumulator block reset at the first token block of a column block (case A),
   added to at each (cases A, B, C) and finished with the scale and the old gradient at the last (case C). -/
module

public import Idealize.ShloMosaic.Lib.ValueIdx
public import proofs.«01_k».proof.Proof.KernelIdealWgrad
public import Idealize.ShloMosaic.Lib.Pipeline.Value
public import Idealize.ShloMosaic.Lib.Tactic

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem

variable {F : FTy → Type} [FloatOps F]

theorem hz2 : (![0, 0] : Fin 2 → Nat) = fun _ => 0 := funext fun a => by fin_cases a <;> rfl

/-- The kernel's two scalars, read from their SMEM words. -/
abbrev at0 : S2.Idx := ValueIdx.ix1 (n := 2) 0
abbrev at1 : S2.Idx := ValueIdx.ix1 (n := 2) 1

theorem ld_at0 (x : Vec F S2 .f32) (j) : View.ld x (Rect.unit (s := S2) ![0] ![1] inb_S2_S1_0) j = x at0 := by
  show x _ = x _
  congr 1
  funext a
  apply Fin.ext
  match a with
  | ⟨0, _⟩ =>
    have h : (j 0).val < 1 := (j 0).isLt
    show 0 + 1 * (j 0).val = 0
    omega

theorem ld_at1 (x : Vec F S2 .f32) (j) : View.ld x (Rect.unit (s := S2) ![1] ![1] inb_S2_S1_1) j = x at1 := by
  show x _ = x _
  congr 1
  funext a
  apply Fin.ext
  match a with
  | ⟨0, _⟩ =>
    have h : (j 0).val < 1 := (j 0).isLt
    show 1 + 1 * (j 0).val = 1
    omega

theorem out1_A_4_eq (c : Dev nD) (i : grid1.Coords) (a2 : Memref sig .tc .smem S2 .f32) (h2 : a2.IsWhole) (a3 : Memref sig .tc .vmem S512x2048 .fp8e4m3) (h3 : a3.IsWhole)
    (a4 : Memref sig .tc .vmem S512x1536 .bf16) (h4 : a4.IsWhole) (a5 : Memref sig .tc .vmem S2048x1536 .f32) (h5 : a5.IsWhole)
    (a6 : Memref sig .tc .vmem S2048x1536 .f32) (h6 : a6.IsWhole) (a7 : Memref sig .tc .vmem S512x1536 .fp8e5m2) (h7 : a7.IsWhole)
    (hc0 : cond1_0 i) (hc1 : ¬cond1_1 i) (x0 : Vec F S2 .f32) (x1 : Vec F S512x2048 .fp8e4m3) (x2 : Vec F S512x1536 .bf16)
    (x3 : Vec F S2048x1536 .f32) :
    out1_A_4 c i a2 h2 a3 h3 a4 h4 a5 h5 a6 h6 a7 h7 hc0 hc1 x0 x1 x2 x3 = k1_pay3 (x0 at0) x2 (k1_pay2 (F := F)) x1 := by
  unfold out1_A_4
  rw [View.read_writes_eq_canon _ _ _ (cover1_A_4 c i a2 h2 a3 h3 a4 h4 a5 h5 a6 h6 a7 h7 hc0 hc1 x0 x1 x2 x3)]
  unfold kernelRun1_A
  dsimp only
  sl_unfold_words
  rw [View.canon_cons_unit_zero (S := S2048x1536) hz2]
  simp only [View.readAt_eq_ld, h2.read_unread, h3.read_unread, h4.read_unread, h5.read_unread, h6.read_unread,
    View.ld_unit_zero (S := S512x2048) hz2, View.ld_unit_zero (S := S512x1536) hz2, View.ld_unit_zero (S := S2048x1536) hz2,
    View.readCov_unit_zero (S := S2048x1536) _ hz2]
  exact congrArg (fun a => k1_pay3 a x2 k1_pay2 x1) (ld_at0 x0 _)

theorem out1_A_5_eq (c : Dev nD) (i : grid1.Coords) (a2 : Memref sig .tc .smem S2 .f32) (h2 : a2.IsWhole) (a3 : Memref sig .tc .vmem S512x2048 .fp8e4m3) (h3 : a3.IsWhole)
    (a4 : Memref sig .tc .vmem S512x1536 .bf16) (h4 : a4.IsWhole) (a5 : Memref sig .tc .vmem S2048x1536 .f32) (h5 : a5.IsWhole)
    (a6 : Memref sig .tc .vmem S2048x1536 .f32) (h6 : a6.IsWhole) (a7 : Memref sig .tc .vmem S512x1536 .fp8e5m2) (h7 : a7.IsWhole)
    (hc0 : cond1_0 i) (hc1 : ¬cond1_1 i) (x0 : Vec F S2 .f32) (x1 : Vec F S512x2048 .fp8e4m3) (x2 : Vec F S512x1536 .bf16)
    (x3 : Vec F S2048x1536 .f32) :
    out1_A_5 c i a2 h2 a3 h3 a4 h4 a5 h5 a6 h6 a7 h7 hc0 hc1 x0 x1 x2 x3 = k1_pay1 (x0 at0) x2 := by
  unfold out1_A_5
  rw [View.read_writes_eq_canon _ _ _ (cover1_A_5 c i a2 h2 a3 h3 a4 h4 a5 h5 a6 h6 a7 h7 hc0 hc1 x0 x1 x2 x3)]
  unfold kernelRun1_A
  dsimp only
  sl_unfold_words
  rw [View.canon_unit_zero (S := S512x1536) hz2]
  simp only [View.readAt_eq_ld, h2.read_unread, h3.read_unread, h4.read_unread, h5.read_unread, h6.read_unread,
    View.ld_unit_zero (S := S512x2048) hz2, View.ld_unit_zero (S := S512x1536) hz2, View.ld_unit_zero (S := S2048x1536) hz2,
    View.readCov_unit_zero (S := S2048x1536) _ hz2]
  exact congrArg (fun a => k1_pay1 a x2) (ld_at0 x0 _)

theorem out1_B_4_eq (c : Dev nD) (i : grid1.Coords) (a2 : Memref sig .tc .smem S2 .f32) (h2 : a2.IsWhole) (a3 : Memref sig .tc .vmem S512x2048 .fp8e4m3) (h3 : a3.IsWhole)
    (a4 : Memref sig .tc .vmem S512x1536 .bf16) (h4 : a4.IsWhole) (a5 : Memref sig .tc .vmem S2048x1536 .f32) (h5 : a5.IsWhole)
    (a6 : Memref sig .tc .vmem S2048x1536 .f32) (h6 : a6.IsWhole) (a7 : Memref sig .tc .vmem S512x1536 .fp8e5m2) (h7 : a7.IsWhole)
    (hc0 : ¬cond1_0 i) (hc1 : ¬cond1_1 i) (x0 : Vec F S2 .f32) (x1 : Vec F S512x2048 .fp8e4m3) (x2 : Vec F S512x1536 .bf16)
    (x3 : Vec F S2048x1536 .f32) (xo : Vec F S2048x1536 .f32) :
    out1_B_4 c i a2 h2 a3 h3 a4 h4 a5 h5 a6 h6 a7 h7 hc0 hc1 x0 x1 x2 x3 xo = k1_pay3 (x0 at0) x2 xo x1 := by
  unfold out1_B_4
  rw [View.read_writes_eq_canon _ _ _ (cover1_B_4 c i a2 h2 a3 h3 a4 h4 a5 h5 a6 h6 a7 h7 hc0 hc1 x0 x1 x2 x3 xo)]
  unfold kernelRun1_B
  dsimp only
  sl_unfold_words
  rw [View.canon_unit_zero (S := S2048x1536) hz2]
  simp only [View.readAt_eq_ld, h2.read_unread, h3.read_unread, h4.read_unread, h5.read_unread, h6.read_unread,
    View.ld_unit_zero (S := S512x2048) hz2, View.ld_unit_zero (S := S512x1536) hz2, View.ld_unit_zero (S := S2048x1536) hz2,
    View.readCov_unit_zero (S := S2048x1536) _ hz2]
  exact congrArg (fun a => k1_pay3 a x2 xo x1) (ld_at0 x0 _)

theorem out1_B_5_eq (c : Dev nD) (i : grid1.Coords) (a2 : Memref sig .tc .smem S2 .f32) (h2 : a2.IsWhole) (a3 : Memref sig .tc .vmem S512x2048 .fp8e4m3) (h3 : a3.IsWhole)
    (a4 : Memref sig .tc .vmem S512x1536 .bf16) (h4 : a4.IsWhole) (a5 : Memref sig .tc .vmem S2048x1536 .f32) (h5 : a5.IsWhole)
    (a6 : Memref sig .tc .vmem S2048x1536 .f32) (h6 : a6.IsWhole) (a7 : Memref sig .tc .vmem S512x1536 .fp8e5m2) (h7 : a7.IsWhole)
    (hc0 : ¬cond1_0 i) (hc1 : ¬cond1_1 i) (x0 : Vec F S2 .f32) (x1 : Vec F S512x2048 .fp8e4m3) (x2 : Vec F S512x1536 .bf16)
    (x3 : Vec F S2048x1536 .f32) (xo : Vec F S2048x1536 .f32) :
    out1_B_5 c i a2 h2 a3 h3 a4 h4 a5 h5 a6 h6 a7 h7 hc0 hc1 x0 x1 x2 x3 xo = k1_pay1 (x0 at0) x2 := by
  unfold out1_B_5
  rw [View.read_writes_eq_canon _ _ _ (cover1_B_5 c i a2 h2 a3 h3 a4 h4 a5 h5 a6 h6 a7 h7 hc0 hc1 x0 x1 x2 x3 xo)]
  unfold kernelRun1_B
  dsimp only
  sl_unfold_words
  rw [View.canon_unit_zero (S := S512x1536) hz2]
  simp only [View.readAt_eq_ld, h2.read_unread, h3.read_unread, h4.read_unread, h5.read_unread, h6.read_unread,
    View.ld_unit_zero (S := S512x2048) hz2, View.ld_unit_zero (S := S512x1536) hz2, View.ld_unit_zero (S := S2048x1536) hz2,
    View.readCov_unit_zero (S := S2048x1536) _ hz2]
  exact congrArg (fun a => k1_pay1 a x2) (ld_at0 x0 _)

theorem out1_C_4_eq (c : Dev nD) (i : grid1.Coords) (a2 : Memref sig .tc .smem S2 .f32) (h2 : a2.IsWhole) (a3 : Memref sig .tc .vmem S512x2048 .fp8e4m3) (h3 : a3.IsWhole)
    (a4 : Memref sig .tc .vmem S512x1536 .bf16) (h4 : a4.IsWhole) (a5 : Memref sig .tc .vmem S2048x1536 .f32) (h5 : a5.IsWhole)
    (a6 : Memref sig .tc .vmem S2048x1536 .f32) (h6 : a6.IsWhole) (a7 : Memref sig .tc .vmem S512x1536 .fp8e5m2) (h7 : a7.IsWhole)
    (hc0 : ¬cond1_0 i) (hc1 : cond1_1 i) (x0 : Vec F S2 .f32) (x1 : Vec F S512x2048 .fp8e4m3) (x2 : Vec F S512x1536 .bf16)
    (x3 : Vec F S2048x1536 .f32) (xo : Vec F S2048x1536 .f32) :
    out1_C_4 c i a2 h2 a3 h3 a4 h4 a5 h5 a6 h6 a7 h7 hc0 hc1 x0 x1 x2 x3 xo = k1_pay4 x3 (k1_pay3 (x0 at0) x2 xo x1) (x0 at1) := by
  unfold out1_C_4
  rw [View.read_writes_eq_canon _ _ _ (cover1_C_4 c i a2 h2 a3 h3 a4 h4 a5 h5 a6 h6 a7 h7 hc0 hc1 x0 x1 x2 x3 xo)]
  unfold kernelRun1_C
  dsimp only
  sl_unfold_words
  rw [View.canon_cons_unit_zero (S := S2048x1536) hz2]
  simp only [View.readAt_eq_ld, h2.read_unread, h3.read_unread, h4.read_unread, h5.read_unread, h6.read_unread,
    View.ld_unit_zero (S := S512x2048) hz2, View.ld_unit_zero (S := S512x1536) hz2, View.ld_unit_zero (S := S2048x1536) hz2,
    View.readCov_unit_zero (S := S2048x1536) _ hz2]
  exact congrArg₂ (fun a b => k1_pay4 x3 (k1_pay3 a x2 xo x1) b) (ld_at0 x0 _) (ld_at1 x0 _)

theorem out1_C_5_eq (c : Dev nD) (i : grid1.Coords) (a2 : Memref sig .tc .smem S2 .f32) (h2 : a2.IsWhole) (a3 : Memref sig .tc .vmem S512x2048 .fp8e4m3) (h3 : a3.IsWhole)
    (a4 : Memref sig .tc .vmem S512x1536 .bf16) (h4 : a4.IsWhole) (a5 : Memref sig .tc .vmem S2048x1536 .f32) (h5 : a5.IsWhole)
    (a6 : Memref sig .tc .vmem S2048x1536 .f32) (h6 : a6.IsWhole) (a7 : Memref sig .tc .vmem S512x1536 .fp8e5m2) (h7 : a7.IsWhole)
    (hc0 : ¬cond1_0 i) (hc1 : cond1_1 i) (x0 : Vec F S2 .f32) (x1 : Vec F S512x2048 .fp8e4m3) (x2 : Vec F S512x1536 .bf16)
    (x3 : Vec F S2048x1536 .f32) (xo : Vec F S2048x1536 .f32) :
    out1_C_5 c i a2 h2 a3 h3 a4 h4 a5 h5 a6 h6 a7 h7 hc0 hc1 x0 x1 x2 x3 xo = k1_pay1 (x0 at0) x2 := by
  unfold out1_C_5
  rw [View.read_writes_eq_canon _ _ _ (cover1_C_5 c i a2 h2 a3 h3 a4 h4 a5 h5 a6 h6 a7 h7 hc0 hc1 x0 x1 x2 x3 xo)]
  unfold kernelRun1_C
  dsimp only
  sl_unfold_words
  rw [View.canon_unit_zero (S := S512x1536) hz2]
  simp only [View.readAt_eq_ld, h2.read_unread, h3.read_unread, h4.read_unread, h5.read_unread, h6.read_unread,
    View.ld_unit_zero (S := S512x2048) hz2, View.ld_unit_zero (S := S512x1536) hz2, View.ld_unit_zero (S := S2048x1536) hz2,
    View.readCov_unit_zero (S := S2048x1536) _ hz2]
  exact congrArg (fun a => k1_pay1 a x2) (ld_at0 x0 _)

end Cert.KernelIdeal.Value

end
-- ==== Proof.WgradValue.lean ====
/- What the second kernel (`_wgrad_kernel`) computes, over the extended reals, from whatever its operand arrays hold:
   the codes array elementwise (`codes_arr`), and the new gradient as the old one plus, scaled, the sum over all 24576
   tokens of activation times code (`dw_arr`). The accumulator block of a column block, after its first `k` token blocks,
   is the sum over the first `512 k` tokens (`acc_eq`), by induction on the token block. -/
module

public import proofs.«01_k».proof.Proof.WgradCases
public import Idealize.ShloMosaic.Lib.Pipeline.Value
public import Idealize.ShloMosaic.Lib.ValueIdx
public import Idealize.ShloMosaic.Lib.Tactic
public import Idealize.ShloMosaic.PureOps.Ideal.Laws

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)
open Idealize.ShloMosaic.ValueIdx (ix2 eq_ix2)
open scoped BigOperators

/-- The code of one element: scaled, clipped to ±57344. -/
def cod (s y : EReal) : EReal :=
  min (Ideal.ofBits .f32 0x47600000#32) (max (Ideal.ofBits .f32 0xC7600000#32) (y * s))

/-- The contraction of the token axis, read at `(a, b)`. -/
theorem matmul_tok (lhs : FVec Ideal S512x2048 .fp8e4m3) (rhs : FVec Ideal S512x1536 .fp8e5m2) (acc : FVec Ideal S2048x1536 .f32)
    (j : S2048x1536.Idx) :
    FloatOps.matmul dot_S512x2048_S512x1536_S2048x1536_0_0_1_1_n_n none lhs rhs acc j
      = acc j + ∑ r : Fin 512, lhs (ix2 r (j 0)) * rhs (ix2 r (j 1)) := by
  have hr : dot_S512x2048_S512x1536_S2048x1536_0_0_1_1_n_n.contr.rank = 1 := rfl
  have hs : dot_S512x2048_S512x1536_S2048x1536_0_0_1_1_n_n.contr.size ⟨0, by rw [hr]; exact Nat.one_pos⟩ = 512 := rfl
  rw [Ideal.matmul_apply, ← Equiv.sum_comp (ValueIdx.contrEquiv1 _ 512 hr hs).symm]
  refine congrArg (acc j + ·) (Finset.sum_congr rfl fun k _ => ?_)
  have hk := ValueIdx.contrEquiv1_symm_val _ 512 hr hs k
  have el : dot_S512x2048_S512x1536_S2048x1536_0_0_1_1_n_n.lhsIdx j ((ValueIdx.contrEquiv1 _ 512 hr hs).symm k) = ix2 k (j 0) := by
    funext a; apply Fin.ext
    match a with
    | ⟨0, _⟩ => exact hk
    | ⟨1, _⟩ => rfl
  have er : dot_S512x2048_S512x1536_S2048x1536_0_0_1_1_n_n.rhsIdx j ((ValueIdx.contrEquiv1 _ 512 hr hs).symm k) = ix2 k (j 1) := by
    funext a; apply Fin.ext
    match a with
    | ⟨0, _⟩ => exact hk
    | ⟨1, _⟩ => rfl
  rw [el, er]
  rfl

theorem pay1_apply (s : EReal) (y : Vec Ideal S512x1536 .bf16) (i : S512x1536.Idx) :
    k1_pay1 (F := Ideal) s y i = cod s (y i) := by
  unfold k1_pay1
  rw [shapeCast_self]
  rfl

theorem pay2_apply (i : S2048x1536.Idx) : k1_pay2 (F := Ideal) i = (0 : EReal) := Ideal.ofBits_zero_f32

theorem pay3_apply (s : EReal) (y : Vec Ideal S512x1536 .bf16) (acc : Vec Ideal S2048x1536 .f32) (x : Vec Ideal S512x2048 .fp8e4m3)
    (j : S2048x1536.Idx) :
    k1_pay3 (F := Ideal) s y acc x j = (acc j + ∑ r : Fin 512, x (ix2 r (j 0)) * cod s (y (ix2 r (j 1))) : EReal) := by
  unfold k1_pay3
  rw [shapeCast_self, shapeCast_self]
  refine congrArg (acc j + ·) ((matmul_tok x (k1_pay1 (F := Ideal) s y) _ j).trans ?_)
  refine (congrArg (· + _) Ideal.ofBits_zero_f32).trans ((zero_add _).trans (Finset.sum_congr rfl fun r _ => ?_))
  rw [pay1_apply]

theorem pay4_apply (w acc : Vec Ideal S2048x1536 .f32) (s : EReal) (j : S2048x1536.Idx) :
    k1_pay4 (F := Ideal) w acc s j = (w j + acc j * s : EReal) := by
  unfold k1_pay4
  rw [shapeCast_self]
  rfl

/-! ## The windows' blocks -/

theorem coord1 (t : Fin cfg1.N) : (grid1.coords t 0).val = t.val / 48 ∧ (grid1.coords t 1).val = t.val % 48 := by
  have hN : cfg1.N = 144 := N_1
  have ht : t.val < 144 := by have := t.isLt; omega
  have e0 := Pipeline.Grid.coords_val (G := grid1) t 0 (S := 48) (B := 3) rfl rfl
  have e1 := Pipeline.Grid.coords_val (G := grid1) t 1 (S := 1) (B := 48) rfl rfl
  refine ⟨by rw [e0]; omega, by rw [e1]; omega⟩

theorem bv_nat (n : Nat) (h : n < 200) : (BitVec.ofNat 32 n).toNat = n := by rw [BitVec.toNat_ofNat]; omega

theorem idx0 (t : Fin cfg1.N) : (BitVec.ofNat 32 (grid1.coords t 0).val).toNat = t.val / 48 := by
  have hN : cfg1.N = 144 := N_1
  have ht : t.val < 144 := by have := t.isLt; omega
  rw [(coord1 t).1]; exact bv_nat _ (by omega)

theorem idx1 (t : Fin cfg1.N) : (BitVec.ofNat 32 (grid1.coords t 1).val).toNat = t.val % 48 := by
  rw [(coord1 t).2]; exact bv_nat _ (by omega)

theorem wi1 (t : Fin cfg1.N) : win1_1.index t 0 = t.val % 48 ∧ win1_1.index t 1 = 0 := ⟨idx1 t, rfl⟩
theorem wi2 (t : Fin cfg1.N) : win1_2.index t 0 = t.val % 48 ∧ win1_2.index t 1 = t.val / 48 := ⟨idx1 t, idx0 t⟩
theorem wi3 (t : Fin cfg1.N) : win1_3.index t 0 = 0 ∧ win1_3.index t 1 = t.val / 48 := ⟨rfl, idx0 t⟩
theorem wi4 (t : Fin cfg1.N) : win1_4.index t 0 = 0 ∧ win1_4.index t 1 = t.val / 48 := ⟨rfl, idx0 t⟩
theorem wi5 (t : Fin cfg1.N) : win1_5.index t 0 = t.val % 48 ∧ win1_5.index t 1 = t.val / 48 := ⟨idx1 t, idx0 t⟩

variable (V : (c : Dev nD) → (b : Ref sig .tc) → Buf (Elt Ideal) ((c : Thread nD τ).loc b))

theorem blk_s (c : Dev nD) (t : Fin cfg1.N) (i : S2.Idx) : iblk1 V c 0 t i = V c main_v32 i := by
  unfold iblk1
  rw [View.read_apply]
  show V c main_v32 _ = V c main_v32 i
  congr 1
  funext a
  apply Fin.ext
  match a with
  | ⟨0, _⟩ => show 0 * 2 + 1 * (i 0).val = (i 0).val; omega

theorem blk_x (c : Dev nD) (t : Fin cfg1.N) (i : S512x2048.Idx) (k : S24576x2048.Idx)
    (h0 : (k 0 : Nat) = 512 * (t.val % 48) + i 0) (h1 : (k 1 : Nat) = i 1) : iblk1 V c 1 t i = V c main_v0 k := by
  unfold iblk1
  rw [View.read_apply]
  show V c main_v0 _ = V c main_v0 k
  congr 1
  funext a
  apply Fin.ext
  match a with
  | ⟨0, _⟩ => show win1_1.index t 0 * 512 + 1 * (i 0).val = (k 0).val; rw [(wi1 t).1, h0]; omega
  | ⟨1, _⟩ => show win1_1.index t 1 * 2048 + 1 * (i 1).val = (k 1).val; rw [(wi1 t).2, h1]; omega

theorem blk_y (c : Dev nD) (t : Fin cfg1.N) (i : S512x1536.Idx) (k : S24576x4608.Idx)
    (h0 : (k 0 : Nat) = 512 * (t.val % 48) + i 0) (h1 : (k 1 : Nat) = 1536 * (t.val / 48) + i 1) : iblk1 V c 2 t i = V c main_v1 k := by
  unfold iblk1
  rw [View.read_apply]
  show V c main_v1 _ = V c main_v1 k
  congr 1
  funext a
  apply Fin.ext
  match a with
  | ⟨0, _⟩ => show win1_2.index t 0 * 512 + 1 * (i 0).val = (k 0).val; rw [(wi2 t).1, h0]; omega
  | ⟨1, _⟩ => show win1_2.index t 1 * 1536 + 1 * (i 1).val = (k 1).val; rw [(wi2 t).2, h1]; omega

theorem blk_w (c : Dev nD) (t : Fin cfg1.N) (i : S2048x1536.Idx) (k : S2048x4608.Idx)
    (h0 : (k 0 : Nat) = i 0) (h1 : (k 1 : Nat) = 1536 * (t.val / 48) + i 1) : iblk1 V c 3 t i = V c main_arg3 k := by
  unfold iblk1
  rw [View.read_apply]
  show V c main_arg3 _ = V c main_arg3 k
  congr 1
  funext a
  apply Fin.ext
  match a with
  | ⟨0, _⟩ => show win1_3.index t 0 * 2048 + 1 * (i 0).val = (k 0).val; rw [(wi3 t).1, h0]; omega
  | ⟨1, _⟩ => show win1_3.index t 1 * 1536 + 1 * (i 1).val = (k 1).val; rw [(wi3 t).2, h1]; omega

/-! ## The blocks the body leaves -/

/-- The four input blocks at point `t`, at their literal shapes. -/
abbrev bs (c : Dev nD) (t : Fin cfg1.N) : S2.Idx → EReal := iblk1 V c 0 t
abbrev bx (c : Dev nD) (t : Fin cfg1.N) : S512x2048.Idx → EReal := iblk1 V c 1 t
abbrev bY (c : Dev nD) (t : Fin cfg1.N) : S512x1536.Idx → EReal := iblk1 V c 2 t
abbrev bw (c : Dev nD) (t : Fin cfg1.N) : S2048x1536.Idx → EReal := iblk1 V c 3 t
/-- The accumulator block after point `n`. -/
abbrev acc (c : Dev nD) (n : ℕ) (hn : n < cfg1.N) : S2048x1536.Idx → EReal := (outsAt1 V c n hn).1

theorem codes_blk (c : Dev nD) (t : Fin cfg1.N) :
    (outsAt1 V c t.val t.isLt).2 = k1_pay1 (F := Ideal) (bs V c t at0) (bY V c t) := by
  by_cases h0 : t.val % 48 = 0
  · have h1 : ¬t.val % 48 = 47 := by omega
    rw [outsAt1_A V c t h0 h1]
    dsimp only
    rw [out1_A_5_eq]
  · by_cases h1 : t.val % 48 = 47
    · rw [outsAt1_C V c t h0 h1]
      dsimp only
      rw [out1_C_5_eq]
    · rw [outsAt1_B V c t h0 h1]
      dsimp only
      rw [out1_B_5_eq]

theorem step_A (c : Dev nD) (t : Fin cfg1.N) (h0 : t.val % 48 = 0) :
    (outsAt1 V c t.val t.isLt).1 = k1_pay3 (F := Ideal) (bs V c t at0) (bY V c t) (k1_pay2 (F := Ideal)) (bx V c t) := by
  rw [outsAt1_A V c t h0 (by omega)]
  dsimp only
  rw [out1_A_4_eq]

theorem step_B (c : Dev nD) (t : Fin cfg1.N) (h0 : ¬t.val % 48 = 0) (h1 : ¬t.val % 48 = 47) :
    (outsAt1 V c t.val t.isLt).1 = k1_pay3 (F := Ideal) (bs V c t at0) (bY V c t)
      (acc V c (t.val - 1) (Nat.lt_of_le_of_lt (Nat.sub_le _ _) t.isLt)) (bx V c t) := by
  rw [outsAt1_B V c t h0 h1]
  dsimp only
  rw [out1_B_4_eq]

theorem step_C (c : Dev nD) (t : Fin cfg1.N) (h1 : t.val % 48 = 47) :
    (outsAt1 V c t.val t.isLt).1 = k1_pay4 (F := Ideal) (bw V c t) (k1_pay3 (F := Ideal) (bs V c t at0) (bY V c t)
      (acc V c (t.val - 1) (Nat.lt_of_le_of_lt (Nat.sub_le _ _) t.isLt)) (bx V c t)) (bs V c t at1) := by
  rw [outsAt1_C V c t (by omega) h1]
  dsimp only
  rw [out1_C_4_eq]

/-- The product of token `n` that goes into the gradient at `(a, b)`. -/
def term (s : EReal) (X : S24576x2048.Idx → EReal) (Y : S24576x4608.Idx → EReal) (a b n : ℕ) : EReal :=
  if h : n < 24576 ∧ a < 2048 ∧ b < 4608 then X (ix2 ⟨n, h.1⟩ ⟨a, h.2.1⟩) * cod s (Y (ix2 ⟨n, h.1⟩ ⟨b, h.2.2⟩)) else 0

/-- One token block's contraction is the sum of its 512 tokens' products. -/
theorem blk_sum (c : Dev nD) (t : Fin cfg1.N) (j : S2048x1536.Idx) :
    (∑ r : Fin 512, bx V c t (ix2 r (j 0)) * cod (bs V c t at0) (bY V c t (ix2 r (j 1))))
      = ∑ r ∈ Finset.range 512, term (V c main_v32 at0) (V c main_v0) (V c main_v1) (j 0) (1536 * (t.val / 48) + j 1) (512 * (t.val % 48) + r) := by
  have hN : cfg1.N = 144 := N_1
  have ht : t.val < 144 := lt_of_lt_of_eq t.isLt hN
  have hj0 : (j 0 : Nat) < 2048 := (j 0).isLt
  have hj1 : (j 1 : Nat) < 1536 := (j 1).isLt
  rw [Finset.sum_range]
  refine Finset.sum_congr rfl fun r _ => ?_
  have hr := r.isLt
  have h : 512 * (t.val % 48) + r.val < 24576 ∧ (j 0 : Nat) < 2048 ∧ 1536 * (t.val / 48) + (j 1 : Nat) < 4608 := ⟨by omega, hj0, by omega⟩
  have es : bs V c t at0 = V c main_v32 at0 := blk_s V c t at0
  have ex : bx V c t (ix2 r (j 0)) = V c main_v0 (ix2 ⟨_, h.1⟩ ⟨_, h.2.1⟩) := blk_x V c t (ix2 r (j 0)) (ix2 ⟨_, h.1⟩ ⟨_, h.2.1⟩) rfl rfl
  have ey : bY V c t (ix2 r (j 1)) = V c main_v1 (ix2 ⟨_, h.1⟩ ⟨_, h.2.2⟩) := blk_y V c t (ix2 r (j 1)) (ix2 ⟨_, h.1⟩ ⟨_, h.2.2⟩) rfl rfl
  unfold term
  rw [dif_pos h, es, ex, ey]

/-- The accumulator after the first token block. -/
theorem acc_A (c : Dev nD) (t : Fin cfg1.N) (h0 : t.val % 48 = 0) (j : S2048x1536.Idx) :
    acc V c t.val t.isLt j = ∑ r ∈ Finset.range 512, term (V c main_v32 at0) (V c main_v0) (V c main_v1) (j 0) (1536 * (t.val / 48) + j 1) r := by
  refine (congrFun (step_A V c t h0) j).trans ((pay3_apply _ _ _ _ _).trans ?_)
  rw [pay2_apply, zero_add, blk_sum V c t j, h0]
  exact Finset.sum_congr rfl fun r _ => congrArg _ (by omega)

/-- What one token block adds to the accumulator so far. -/
theorem acc_add (c : Dev nD) (t : Fin cfg1.N) (A : S2048x1536.Idx → EReal) (j : S2048x1536.Idx) :
    k1_pay3 (F := Ideal) (bs V c t at0) (bY V c t) A (bx V c t) j
      = (A j + ∑ r ∈ Finset.range 512, term (V c main_v32 at0) (V c main_v0) (V c main_v1) (j 0) (1536 * (t.val / 48) + j 1) (512 * (t.val % 48) + r) : EReal) := by
  refine (pay3_apply _ _ _ _ _).trans ?_
  rw [blk_sum V c t j]

/-- The accumulator before the closing step: the sum over the tokens met so far. -/
theorem acc_eq (c : Dev nD) (n : ℕ) (hn : n < cfg1.N) (h47 : ¬n % 48 = 47) (j : S2048x1536.Idx) :
    acc V c n hn j
      = ∑ m ∈ Finset.range (512 * (n % 48 + 1)), term (V c main_v32 at0) (V c main_v0) (V c main_v1) (j 0) (1536 * (n / 48) + j 1) m := by
  induction n with
  | zero => exact acc_A V c ⟨0, hn⟩ rfl j
  | succ n ih =>
    by_cases h0 : (n + 1) % 48 = 0
    · rw [h0]
      exact acc_A V c ⟨n + 1, hn⟩ h0 j
    · refine (congrFun (step_B V c ⟨n + 1, hn⟩ h0 h47) j).trans ((acc_add V c _ _ j).trans ?_)
      refine (congrArg (· + _) (ih (by omega) (by omega))).trans ?_
      rw [show 512 * ((n + 1) % 48 + 1) = 512 * (n % 48 + 1) + 512 by omega, Finset.sum_range_add,
        show (n + 1) / 48 = n / 48 by omega, show (n + 1) % 48 = n % 48 + 1 by omega]

/-- The block written back: the old gradient plus the scaled sum over all the tokens. -/
theorem dw_blk (c : Dev nD) (t : Fin cfg1.N) (h : t.val % 48 = 47) (j : S2048x1536.Idx) :
    acc V c t.val t.isLt j
      = bw V c t j + (∑ m ∈ Finset.range 24576, term (V c main_v32 at0) (V c main_v0) (V c main_v1) (j 0) (1536 * (t.val / 48) + j 1) m)
          * V c main_v32 at1 := by
  refine (congrFun (step_C V c t h) j).trans ((pay4_apply _ _ _ _).trans ?_)
  have es : bs V c t at1 = V c main_v32 at1 := blk_s V c t at1
  rw [es, acc_add, acc_eq V c _ _ (by omega)]
  rw [show (24576 : ℕ) = 512 * ((t.val - 1) % 48 + 1) + 512 by omega, Finset.sum_range_add,
    show (t.val - 1) / 48 = t.val / 48 by omega, show (t.val - 1) % 48 + 1 = t.val % 48 by omega]

/-! ## The arrays the second kernel leaves -/

/-- The codes array, elementwise. -/
def codesG (c : Dev nD) : Vec Ideal S24576x4608 .fp8e5m2 := fun k => cod (V c main_v32 at0) (V c main_v1 k)

theorem codes_arr (c : Dev nD) : (dat1 V c).arrAt 5 cfg1.N = codesG V c := by
  have hN : cfg1.N = 144 := N_1
  refine (dat1 V c).arrAt_eq_of_cover 5 (codesG V c) (fun t hf => ?_) fun i => ?_
  · have ht : t.val < 144 := lt_of_lt_of_eq t.isLt hN
    funext j
    rw [View.read_apply]
    show ((dat1 V c).after 5 t : Vec Ideal S512x1536 .fp8e5m2) j = codesG V c _
    rw [after1_5, codes_blk]
    refine (pay1_apply _ _ _).trans ?_
    have hj0 : (j 0 : Nat) < 512 := (j 0).isLt
    have hj1 : (j 1 : Nat) < 1536 := (j 1).isLt
    have es : bs V c t at0 = V c main_v32 at0 := blk_s V c t at0
    rw [es]
    show cod _ _ = cod (V c main_v32 at0) (V c main_v1 _)
    refine congrArg _ (blk_y V c t j _ ?_ ?_)
    · show win1_5.index t 0 * 512 + 1 * (j 0).val = _; rw [(wi5 t).1]; omega
    · show win1_5.index t 1 * 1536 + 1 * (j 1).val = _; rw [(wi5 t).2]; omega
  · have h0 : (i 0 : Nat) < 24576 := (i 0).isLt
    have h1 : (i 1 : Nat) < 4608 := (i 1).isLt
    obtain ⟨t, ht⟩ : ∃ t : Fin cfg1.N, t.val = 48 * ((i 1 : Nat) / 1536) + (i 0 : Nat) / 512 :=
      ⟨⟨48 * ((i 1 : Nat) / 1536) + (i 0 : Nat) / 512, by rw [hN]; omega⟩, rfl⟩
    refine ⟨t, flush1_5 _, ?_⟩
    show i ∈ ((View.whole main_v33_1).slice (win1_5.rect t)).set
    rw [View.set_slice_whole, Rect.mem_set_unit]
    intro a
    match a with
    | ⟨0, _⟩ => show win1_5.index t 0 * 512 ≤ (i 0 : Nat) ∧ (i 0 : Nat) < win1_5.index t 0 * 512 + 512
                rw [(wi5 t).1]; omega
    | ⟨1, _⟩ => show win1_5.index t 1 * 1536 ≤ (i 1 : Nat) ∧ (i 1 : Nat) < win1_5.index t 1 * 1536 + 1536
                rw [(wi5 t).2]; omega

/-- The new gradient at `(a, b)`. -/
def dwVal (s s' : EReal) (X : S24576x2048.Idx → EReal) (Y : S24576x4608.Idx → EReal) (W : S2048x4608.Idx → EReal)
    (k : S2048x4608.Idx) : EReal :=
  W k + (∑ m : Fin 24576, X (ix2 m (k 0)) * cod s (Y (ix2 m (k 1)))) * s'

theorem sum_term (s : EReal) (X : S24576x2048.Idx → EReal) (Y : S24576x4608.Idx → EReal) (k : S2048x4608.Idx) :
    ∑ m ∈ Finset.range 24576, term s X Y (k 0) (k 1) m = ∑ m : Fin 24576, X (ix2 m (k 0)) * cod s (Y (ix2 m (k 1))) := by
  rw [Finset.sum_range]
  exact Finset.sum_congr rfl fun m _ => dif_pos ⟨m.isLt, (k 0).isLt, (k 1).isLt⟩

def dwG (c : Dev nD) : Vec Ideal S2048x4608 .f32 :=
  dwVal (V c main_v32 at0) (V c main_v32 at1) (V c main_v0) (V c main_v1) (V c main_arg3)

theorem dw_arr (c : Dev nD) : (dat1 V c).arrAt 4 cfg1.N = dwG V c := by
  have hN : cfg1.N = 144 := N_1
  refine (dat1 V c).arrAt_eq_of_cover 4 (dwG V c) (fun t hf => ?_) fun i => ?_
  · have ht : t.val < 144 := lt_of_lt_of_eq t.isLt hN
    funext j
    have hj0 : (j 0 : Nat) < 2048 := (j 0).isLt
    have hj1 : (j 1 : Nat) < 1536 := (j 1).isLt
    rw [View.read_apply]
    show ((dat1 V c).after 4 t : Vec Ideal S2048x1536 .f32) j = dwG V c _
    rw [after1_4]
    refine (dw_blk V c t ((flush1_4 t).mp hf) j).trans ?_
    generalize hk : ((cfg1.win 4).blk t).view.emb j = k
    have e0 : (k 0 : Nat) = j 0 := by
      rw [← hk]; show win1_4.index t 0 * 2048 + 1 * (j 0).val = _; rw [(wi4 t).1]; omega
    have e1 : (k 1 : Nat) = 1536 * (t.val / 48) + j 1 := by
      rw [← hk]; show win1_4.index t 1 * 1536 + 1 * (j 1).val = _; rw [(wi4 t).2]; omega
    unfold dwG dwVal
    have ew : bw V c t j = V c main_arg3 k := blk_w V c t j k e0 e1
    rw [ew, ← sum_term, e0, e1]
  · have h0 : (i 0 : Nat) < 2048 := (i 0).isLt
    have h1 : (i 1 : Nat) < 4608 := (i 1).isLt
    obtain ⟨t, ht⟩ : ∃ t : Fin cfg1.N, t.val = 48 * ((i 1 : Nat) / 1536) + 47 :=
      ⟨⟨48 * ((i 1 : Nat) / 1536) + 47, by rw [hN]; omega⟩, rfl⟩
    refine ⟨t, (flush1_4 _).mpr (by omega), ?_⟩
    show i ∈ ((View.whole main_v33_0).slice (win1_4.rect t)).set
    rw [View.set_slice_whole, Rect.mem_set_unit]
    intro a
    match a with
    | ⟨0, _⟩ => show win1_4.index t 0 * 2048 ≤ (i 0 : Nat) ∧ (i 0 : Nat) < win1_4.index t 0 * 2048 + 2048
                rw [(wi4 t).1]; omega
    | ⟨1, _⟩ => show win1_4.index t 1 * 1536 ≤ (i 1 : Nat) ∧ (i 1 : Nat) < win1_4.index t 1 * 1536 + 1536
                rw [(wi4 t).2]; omega

end Cert.KernelIdeal.Value

end
-- ==== Proof.HostK.lean ====
/- The scalar arithmetic between the two kernels: from the largest absolute value to the power-of-two scale and its
   inverse (`scaleOf`, `invOf`), as one function both programs apply, and what the kernel program's host operations leave
   in the buffers the second kernel and the caller read. -/
module

public import proofs.«01_k».proof.Proof.KernelIdealRun
public import proofs.«01_k».proof.Proof.WgradCases
public import Idealize.ShloMosaic.Lib.StableHlo.RunRead
public import Idealize.ShloMosaic.Lib.Pipeline.Value
public import Idealize.ShloMosaic.Lib.ValueIdx
public import Idealize.ShloMosaic.PureOps.Ideal.Laws

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem

/-- The normalised exponent of `v`: 0 unless `v` is a normal finite number, else the number of powers of two at most `v`
    less 126 (as `frexp` gives it). -/
def frexpOf (v : FVec Ideal S_ .f32) : IVec S_ 32 :=
  select
    (andi (cmpf .oge v (constant S_ .f32 0x00800000#32)) (cmpf .olt v (constant S_ .f32 0x7F800000#32)))
    (subi
      (Host.reduce IntOp.addi
        (extui 32
          (cmpf .oge (broadcastInDim S254 ![] bcast_S_S254 v)
            (bitcastToFloat .f32
              (Host.shli (addi (broadcastInDim S254 ![] bcast_S_S254 (constantI S_ 32 1#32)) (iotaInDim S254 32 0))
                (broadcastInDim S254 ![] bcast_S_S254 (constantI S_ 32 23#32)))))
          natLt_1_32)
        (constantI S_ 32 0#32) reducesTo_S254_S_d0 h_S_)
      (constantI S_ 32 126#32))
    (constantI S_ 32 0#32)

/-- The scale's exponent from the largest absolute value. -/
def expoOf (a : FVec Ideal S_ .f32) : IVec S_ 32 :=
  select (cmpf .oeq a (constant S_ .f32 0x00000000#32)) (constantI S_ 32 0#32)
    (frexpOf (mulf a (constant S_ .f32 0x37924925#32)))

/-- The scale, `2 ^ e`. -/
def scaleOf (a : FVec Ideal S_ .f32) : FVec Ideal S_ .f32 :=
  bitcastToFloat .f32 (Host.shli (addi (expoOf a) (constantI S_ 32 127#32)) (constantI S_ 32 23#32))

/-- Its inverse, `2 ^ (-e)`. -/
def invOf (a : FVec Ideal S_ .f32) : FVec Ideal S_ .f32 :=
  bitcastToFloat .f32 (Host.shli (addi (negi (expoOf a)) (constantI S_ 32 127#32)) (constantI S_ 32 23#32))

/-- The product of two scalars. -/
abbrev mulS (a b : FVec Ideal S_ .f32) : FVec Ideal S_ .f32 := mulf a b

variable (m : (ℓ : Loc nD τ sig) → Buf (Elt Ideal) ℓ) (ρ : Dev nD → PrngReg)

/-- The largest absolute value the first kernel hands over, as a scalar. -/
def amaxK (c : Dev nD) : FVec Ideal S_ .f32 :=
  shapeCast S_ (W2 m ρ c (Proc.devRef .tc main_v2) : Vec Ideal S1x1 .f32) shapeCasts_S1x1_S_

theorem read_v24 (c : Dev nD) : W7 m ρ c (Proc.devRef .tc main_v24) = scaleOf (amaxK m ρ c) := by
  dsimp only [W7, W6, W5, W4, W3]
  after_reads_simp
  rfl

theorem read_v28 (c : Dev nD) : W7 m ρ c (Proc.devRef .tc main_v28) = invOf (amaxK m ρ c) := by
  dsimp only [W7, W6, W5, W4, W3]
  after_reads_simp
  rfl

theorem W6_arg1 (c : Dev nD) : W6 m ρ c (Proc.devRef .tc main_arg1) = m ((c : Thread nD τ).loc main_arg1) :=
  W6_args m ρ c main_arg1 (by simp)

theorem read_v29 (c : Dev nD) : W7 m ρ c (Proc.devRef .tc main_v29)
    = mulS (m ((c : Thread nD τ).loc main_arg1)) (scaleOf (amaxK m ρ c)) := by
  have e : W7 m ρ c (Proc.devRef .tc main_v29)
      = mulS (W6 m ρ c (Proc.devRef .tc main_arg1)) (W7 m ρ c (Proc.devRef .tc main_v24)) := by
    dsimp only [W7]
    generalize W6 m ρ c = V
    after_reads_simp
  rw [e, W6_arg1, read_v24]

/-- The two scalars of the second kernel, one word each. -/
theorem read_v32 (c : Dev nD) : (W7 m ρ c (Proc.devRef .tc main_v32) : Vec Ideal S2 .f32)
    = concatenate S2 0 [⟨S1, broadcastInDim S1 ![] bcast_S_S1 (W7 m ρ c (Proc.devRef .tc main_v28) : FVec Ideal S_ .f32)⟩,
        ⟨S1, broadcastInDim S1 ![] bcast_S_S1 (W7 m ρ c (Proc.devRef .tc main_v29) : FVec Ideal S_ .f32)⟩] concatenates_S1_S1_S2_d0 := by
  have e30 : (W7 m ρ c (Proc.devRef .tc main_v30) : Vec Ideal S1 .f32)
      = broadcastInDim S1 ![] bcast_S_S1 (W7 m ρ c (Proc.devRef .tc main_v28) : FVec Ideal S_ .f32) := by
    dsimp only [W7]
    generalize W6 m ρ c = V
    after_reads_simp
  have e31 : (W7 m ρ c (Proc.devRef .tc main_v31) : Vec Ideal S1 .f32)
      = broadcastInDim S1 ![] bcast_S_S1 (W7 m ρ c (Proc.devRef .tc main_v29) : FVec Ideal S_ .f32) := by
    dsimp only [W7]
    generalize W6 m ρ c = V
    after_reads_simp
  rw [← e30, ← e31]
  rfl

theorem v32_at0 (c : Dev nD) : (V7 m ρ c main_v32 : Vec Ideal S2 .f32) at0 = invOf (amaxK m ρ c) ValueIdx.ix0 := by
  refine (congrFun (read_v32 m ρ c) at0).trans ?_
  rw [concatenate_pair_apply_left (t := S2) (s₁ := S1) (s₂ := S1) 0 _ _ _ at0 rfl (ValueIdx.ix1 (n := 1) 0) (fun b => by fin_cases b; rfl),
    broadcastInDim_apply _ _ _ _ ValueIdx.ix0 (fun a => a.elim0), read_v28]

theorem v32_at1 (c : Dev nD) : (V7 m ρ c main_v32 : Vec Ideal S2 .f32) at1
    = mulS (m ((c : Thread nD τ).loc main_arg1)) (scaleOf (amaxK m ρ c)) ValueIdx.ix0 := by
  refine (congrFun (read_v32 m ρ c) at1).trans ?_
  rw [concatenate_pair_apply_right (t := S2) (s₁ := S1) (s₂ := S1) 0 _ _ _ at1 rfl rfl (ValueIdx.ix1 (n := 1) 0)
      (fun b h => by fin_cases b; exact absurd rfl h) rfl,
    broadcastInDim_apply _ _ _ _ ValueIdx.ix0 (fun a => a.elim0), read_v29]

/-! ## The arrays the kernels read, as the arguments -/

theorem V1_v1 (c : Dev nD) : (V1 m ρ c main_v1 : Vec Ideal S24576x4608 .bf16)
    = shapeCast S24576x4608 (m ((c : Thread nD τ).loc main_arg2) : Vec Ideal S4x6144x4608 .bf16) shapeCasts_S4x6144x4608_S24576x4608 := by
  dsimp only [V1, W1]
  after_reads_simp
  rfl

theorem V1_v0 (c : Dev nD) : (V1 m ρ c main_v0 : Vec Ideal S24576x2048 .fp8e4m3)
    = shapeCast S24576x2048 (m ((c : Thread nD τ).loc main_arg0) : Vec Ideal S4x6144x2048 .fp8e4m3) shapeCasts_S4x6144x2048_S24576x2048 := by
  dsimp only [V1, W1]
  after_reads_simp
  rfl

theorem W7_of_W2 (c : Dev nD) (r : Ref sig .tc) (h1 : r ∉ hostOps1_W) (h2 : r ∉ hostOps1_1_W) (h3 : r ∉ hostOps1_2_W) (h4 : r ∉ hostOps1_3_W)
    (h5 : r ∉ hostOps1_4_W) : W7 m ρ c (Proc.devRef .tc r) = W2 m ρ c (Proc.devRef .tc r) :=
  (W7_of m ρ c r h5).trans ((W6_of m ρ c r h4).trans ((W5_of m ρ c r h3).trans ((W4_of m ρ c r h2).trans (W3_of m ρ c r h1))))

theorem V7_v1 (c : Dev nD) : V7 m ρ c main_v1 = V1 m ρ c main_v1 :=
  (W7_of_W2 m ρ c main_v1 (by decide) (by decide) (by decide) (by decide) (by decide)).trans (W2_of m ρ c main_v1 (by decide))

theorem V7_v0 (c : Dev nD) : V7 m ρ c main_v0 = V1 m ρ c main_v0 :=
  (W7_of_W2 m ρ c main_v0 (by decide) (by decide) (by decide) (by decide) (by decide)).trans (W2_of m ρ c main_v0 (by decide))

theorem V7_arg3 (c : Dev nD) : V7 m ρ c main_arg3 = m ((c : Thread nD τ).loc main_arg3) := W7_args m ρ c main_arg3 (by simp)

end Cert.KernelIdeal.Value

end
-- ==== Proof.RefValue.lean ====
/- What the reference program computes, over the extended reals: the scale as the same function of the largest absolute
   value (`read_v23`), the codes elementwise (`codes_arr`), and the new gradient as the old one plus, scaled, the sum over
   all 24576 tokens of activation times code (`dw_arr`). -/
module

public import proofs.«01_k».proof.Proof.Gen.ReferenceIdeal.Frame
public import proofs.«01_k».proof.Proof.AmaxValue
public import proofs.«01_k».proof.Proof.WgradValue
public import proofs.«01_k».proof.Proof.HostK
public import Idealize.ShloMosaic.Lib.StableHlo.RunRead
public import Idealize.ShloMosaic.Lib.Pipeline.Value
public import Idealize.ShloMosaic.Lib.ValueIdx
public import Idealize.ShloMosaic.Lib.Tactic
public import Idealize.ShloMosaic.PureOps.Ideal.Laws

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)
open Idealize.ShloMosaic.ValueIdx (ix2 ix0)
open Cert.KernelIdeal.Value (cod dwVal scaleOf invOf mulS abs hostReduce_le ofBits_f32_bot)
open scoped BigOperators

variable (m : (ℓ : Loc nD τ sig) → Buf (Elt Ideal) ℓ)

/-! ## The four arguments, at their literal shapes -/

abbrev x (c : Dev nD) : S4x6144x2048.Idx → EReal := m ((c : Thread nD τ).loc main_arg0)
abbrev xs (c : Dev nD) : FVec Ideal S_ .f32 := m ((c : Thread nD τ).loc main_arg1)
abbrev dy (c : Dev nD) : S4x6144x4608.Idx → EReal := m ((c : Thread nD τ).loc main_arg2)
abbrev w (c : Dev nD) : S2048x4608.Idx → EReal := m ((c : Thread nD τ).loc main_arg3)

/-! ## The scale -/

/-- The normalised exponent of `v`: 0 unless `v` is a normal finite number, else the number of powers of two at most `v`
    less 126 (as `frexp` gives it). -/
def frexpR (v : FVec Ideal S_ .f32) : IVec S_ 32 :=
  select
    (andi (cmpf .oge v (constant S_ .f32 0x00800000#32)) (cmpf .olt v (constant S_ .f32 0x7F800000#32)))
    (subi
      (Host.reduce IntOp.addi
        (extui 32
          (cmpf .oge (broadcastInDim S254 ![] bcast_S_S254 v)
            (bitcastToFloat .f32
              (Host.shli (addi (broadcastInDim S254 ![] bcast_S_S254 (constantI S_ 32 1#32)) (iotaInDim S254 32 0))
                (broadcastInDim S254 ![] bcast_S_S254 (constantI S_ 32 23#32)))))
          natLt_1_32)
        (constantI S_ 32 0#32) reducesTo_S254_S_d0 h_S_)
      (constantI S_ 32 126#32))
    (constantI S_ 32 0#32)

/-- The scale's exponent from the largest absolute value. -/
def expoR (a : FVec Ideal S_ .f32) : IVec S_ 32 :=
  select (cmpf .oeq a (constant S_ .f32 0x00000000#32)) (constantI S_ 32 0#32)
    (frexpR (mulf a (constant S_ .f32 0x37924925#32)))

/-- The scale, `2 ^ e`. -/
def scaleR (a : FVec Ideal S_ .f32) : FVec Ideal S_ .f32 :=
  bitcastToFloat .f32 (Host.shli (addi (expoR a) (constantI S_ 32 127#32)) (constantI S_ 32 23#32))

/-- Its inverse, `2 ^ (-e)`. -/
def invR (a : FVec Ideal S_ .f32) : FVec Ideal S_ .f32 :=
  bitcastToFloat .f32 (Host.shli (addi (negi (expoR a)) (constantI S_ 32 127#32)) (constantI S_ 32 23#32))

theorem frexpR_eq (v : FVec Ideal S_ .f32) : frexpR v = Cert.KernelIdeal.Value.frexpOf v := rfl

theorem expoR_eq (v : FVec Ideal S_ .f32) : expoR v = Cert.KernelIdeal.Value.expoOf v := by
  unfold expoR Cert.KernelIdeal.Value.expoOf
  rw [frexpR_eq]

theorem scaleR_eq (v : FVec Ideal S_ .f32) : scaleR v = scaleOf v := by
  unfold scaleR scaleOf
  rw [expoR_eq]

theorem invR_eq (v : FVec Ideal S_ .f32) : invR v = invOf v := by
  unfold invR invOf
  rw [expoR_eq]

/-- The largest absolute value. -/
def amaxR (c : Dev nD) : FVec Ideal S_ .f32 :=
  Host.reduce FloatOps.maximumf (Host.absf (extf (F := Ideal) .f32 (m (c, Proc.devRef .tc main_arg2) : FVec Ideal S4x6144x4608 .bf16) bitsLt_bf16_f32))
    (constant (F := Ideal) S_ .f32 0xFF800000#32) reducesTo_S4x6144x4608_S_d0_1_2 h_S_

theorem amaxR_le (c : Dev nD) (y : EReal) : (amaxR m c ix0 : EReal) ≤ y ↔ ∀ i, abs (dy m c i) ≤ y :=
  (hostReduce_le (Host.absf (extf (F := Ideal) .f32 (m (c, Proc.devRef .tc main_arg2) : FVec Ideal S4x6144x4608 .bf16) bitsLt_bf16_f32))
    (constant (F := Ideal) S_ .f32 0xFF800000#32) reducesTo_S4x6144x4608_S_d0_1_2 h_S_ (fun _ => ofBits_f32_bot) ix0 y).trans
    ⟨fun H i => H i (ValueIdx.eq_ix0 _), fun H i _ => H i⟩

theorem read_v2 (c : Dev nD) : V m c main_v2 = amaxR m c := by
  unfold amaxR
  dsimp only [V, List.flatten_cons, List.flatten_nil, List.append_nil, List.cons_append, List.nil_append, hostOps0, hostOps0_1, hostOps0_2, hostOps0_3, hostOps0_4]
  after_reads_simp

theorem read_v23 (c : Dev nD) : V m c main_v23 = scaleOf (amaxR m c) := by
  rw [← read_v2, ← scaleR_eq]
  dsimp only [V, List.flatten_cons, List.flatten_nil, List.append_nil, List.cons_append, List.nil_append, hostOps0, hostOps0_1, hostOps0_2, hostOps0_3, hostOps0_4]
  after_reads_simp
  generalize Host.reduce (FloatOps.maximumf : Ideal .f32 → Ideal .f32 → Ideal .f32) _ _ reducesTo_S4x6144x4608_S_d0_1_2 h_S_ = A
  dsimp only [StableHlo.TRef.ofBuf, StableHlo.TRef.toBuf]
  unfold scaleR expoR frexpR id
  repeat rw [cast_eq]

theorem read_v28 (c : Dev nD) : (V m c main_v28 : Vec Ideal S1x1 .f32) = shapeCast S1x1 (invOf (amaxR m c)) shapeCasts_S_S1x1 := by
  rw [← read_v2, ← invR_eq]
  dsimp only [V, List.flatten_cons, List.flatten_nil, List.append_nil, List.cons_append, List.nil_append, hostOps0, hostOps0_1, hostOps0_2, hostOps0_3, hostOps0_4]
  after_reads_simp
  generalize Host.reduce (FloatOps.maximumf : Ideal .f32 → Ideal .f32 → Ideal .f32) _ _ reducesTo_S4x6144x4608_S_d0_1_2 h_S_ = A
  dsimp only [StableHlo.TRef.ofBuf, StableHlo.TRef.toBuf]
  unfold invR expoR frexpR id
  repeat rw [cast_eq]
  rfl

theorem read_v30 (c : Dev nD) : (V m c main_v30 : Vec Ideal S1x1 .f32)
    = shapeCast S1x1 (mulS (xs m c) (scaleOf (amaxR m c))) shapeCasts_S_S1x1 := by
  rw [← read_v2, ← scaleR_eq]
  dsimp only [V, List.flatten_cons, List.flatten_nil, List.append_nil, List.cons_append, List.nil_append, hostOps0, hostOps0_1, hostOps0_2, hostOps0_3, hostOps0_4]
  after_reads_simp
  generalize Host.reduce (FloatOps.maximumf : Ideal .f32 → Ideal .f32 → Ideal .f32) _ _ reducesTo_S4x6144x4608_S_d0_1_2 h_S_ = A
  dsimp only [StableHlo.TRef.ofBuf, StableHlo.TRef.toBuf]
  unfold scaleR expoR frexpR id
  repeat rw [cast_eq]
  rfl

/-- A scalar cast to one word has the scalar at its one index. -/
theorem cast_word (a : FVec Ideal S_ .f32) (i : S1x1.Idx) : shapeCast S1x1 a shapeCasts_S_S1x1 i = a ix0 :=
  congrArg a (ValueIdx.eq_ix0 _)

/-! ## The body's terms -/

/-- The contraction of the token axis. -/
theorem matmul_tok (lhs : FVec Ideal S24576x2048 .fp8e4m3) (rhs : FVec Ideal S24576x4608 .fp8e5m2) (acc : FVec Ideal S2048x4608 .f32)
    (j : S2048x4608.Idx) :
    FloatOps.matmul dot_S24576x2048_S24576x4608_S2048x4608_0_0_1_1_n_n none lhs rhs acc j
      = acc j + ∑ r : Fin 24576, lhs (ix2 r (j 0)) * rhs (ix2 r (j 1)) := by
  have hr : dot_S24576x2048_S24576x4608_S2048x4608_0_0_1_1_n_n.contr.rank = 1 := rfl
  have hs : dot_S24576x2048_S24576x4608_S2048x4608_0_0_1_1_n_n.contr.size ⟨0, by rw [hr]; exact Nat.one_pos⟩ = 24576 := rfl
  rw [Ideal.matmul_apply, ← Equiv.sum_comp (ValueIdx.contrEquiv1 _ 24576 hr hs).symm]
  refine congrArg (acc j + ·) (Finset.sum_congr rfl fun k _ => ?_)
  have hk := ValueIdx.contrEquiv1_symm_val _ 24576 hr hs k
  have el : dot_S24576x2048_S24576x4608_S2048x4608_0_0_1_1_n_n.lhsIdx j ((ValueIdx.contrEquiv1 _ 24576 hr hs).symm k) = ix2 k (j 0) := by
    funext a; apply Fin.ext
    match a with
    | ⟨0, _⟩ => exact hk
    | ⟨1, _⟩ => rfl
  have er : dot_S24576x2048_S24576x4608_S2048x4608_0_0_1_1_n_n.rhsIdx j ((ValueIdx.contrEquiv1 _ 24576 hr hs).symm k) = ix2 k (j 1) := by
    funext a; apply Fin.ext
    match a with
    | ⟨0, _⟩ => exact hk
    | ⟨1, _⟩ => rfl
  rw [el, er]
  rfl

theorem pay1_apply (v : Vec Ideal S4x6144x4608 .bf16) (s : FVec Ideal S_ .f32) (i : S4x6144x4608.Idx) :
    k0_pay1 (F := Ideal) v (shapeCast S1x1 s shapeCasts_S_S1x1) i = cod (s ix0) (v i) := by
  have e : extractAt ![0, 0] (shapeCast S1x1 s shapeCasts_S_S1x1) inpos_S1x1_p0_0 = s ix0 := cast_word s _
  unfold k0_pay1
  rw [e]
  rfl

theorem pay2_apply (v : Vec Ideal S4x6144x4608 .bf16) (s : FVec Ideal S_ .f32) (u : Vec Ideal S4x6144x2048 .fp8e4m3)
    (o : Vec Ideal S2048x4608 .f32) (s' : FVec Ideal S_ .f32) (k : S2048x4608.Idx) :
    k0_pay2 (F := Ideal) v (shapeCast S1x1 s shapeCasts_S_S1x1) u o (shapeCast S1x1 s' shapeCasts_S_S1x1) k
      = dwVal (s ix0) (s' ix0) (shapeCast S24576x2048 u shapeCasts_S4x6144x2048_S24576x2048)
          (shapeCast S24576x4608 v shapeCasts_S4x6144x4608_S24576x4608) o k := by
  have e : extractAt ![0, 0] (shapeCast S1x1 s' shapeCasts_S_S1x1) inpos_S1x1_p0_0 = s' ix0 := cast_word s' _
  unfold k0_pay2
  rw [e]
  unfold dwVal
  refine congrArg (fun z : EReal => o k + z * s' ix0) ((matmul_tok _ _ _ k).trans ?_)
  refine (congrArg (· + _) Ideal.ofBits_zero_f32).trans ((zero_add _).trans (Finset.sum_congr rfl fun r _ => ?_))
  refine congrArg (_ * ·) (pay1_apply v s _)

/-! ## The windows -/

theorem hz2 : (![0, 0] : Fin 2 → Nat) = fun _ => 0 := funext fun a => by fin_cases a <;> rfl
theorem hz3 : (![0, 0, 0] : Fin 3 → Nat) = fun _ => 0 := funext fun a => by fin_cases a <;> rfl

theorem out5_eq (x0 x1 : Vec Ideal S1x1 .f32) (x2 : Vec Ideal S4x6144x4608 .bf16) (x3 : Vec Ideal S4x6144x2048 .fp8e4m3) (x4 : Vec Ideal S2048x4608 .f32) :
    out0_5 x0 x1 x2 x3 x4 = k0_pay2 x2 x0 x3 x4 x1 := by
  unfold out0_5
  rw [View.canon_unit_zero (S := S2048x4608) hz2, View.ld_unit_zero (S := S4x6144x4608) hz3, View.ld_unit_zero (S := S4x6144x2048) hz3,
    View.ld_unit_zero (S := S2048x4608) hz2, View.ld_unit_zero (S := S1x1) hz2, View.ld_unit_zero (S := S1x1) hz2]

theorem out6_eq (x0 x1 : Vec Ideal S1x1 .f32) (x2 : Vec Ideal S4x6144x4608 .bf16) (x3 : Vec Ideal S4x6144x2048 .fp8e4m3) (x4 : Vec Ideal S2048x4608 .f32) :
    out0_6 x0 x1 x2 x3 x4 = k0_pay1 x2 x0 := by
  unfold out0_6
  rw [View.canon_unit_zero (S := S4x6144x4608) hz3, View.ld_unit_zero (S := S4x6144x4608) hz3, View.ld_unit_zero (S := S1x1) hz2]

theorem word0 (c : Dev nD) (t : Fin cfg0.N) (A : Buf (Elt Ideal) ((c : Thread nD τ).loc main_v28)) :
    (((cfg0.win 0).blk t).view.read (Elt Ideal) A : Vec Ideal S1x1 .f32) = A := by
  funext i
  rw [View.read_apply]
  show A _ = A i
  refine congrArg A ?_
  funext a
  apply Fin.ext
  match a with
  | ⟨0, _⟩ => show 0 * 1 + 1 * (i 0).val = (i 0).val; omega
  | ⟨1, _⟩ => show 0 * 1 + 1 * (i 1).val = (i 1).val; omega

theorem blk0 (c : Dev nD) (t : Fin cfg0.N) : (iblk m c 0 t : Vec Ideal S1x1 .f32) = V m c main_v28 :=
  word0 c t (V m c main_v28)

theorem word1 (c : Dev nD) (t : Fin cfg0.N) (A : Buf (Elt Ideal) ((c : Thread nD τ).loc main_v30)) :
    (((cfg0.win 1).blk t).view.read (Elt Ideal) A : Vec Ideal S1x1 .f32) = A := by
  funext i
  rw [View.read_apply]
  show A _ = A i
  refine congrArg A ?_
  funext a
  apply Fin.ext
  match a with
  | ⟨0, _⟩ => show 0 * 1 + 1 * (i 0).val = (i 0).val; omega
  | ⟨1, _⟩ => show 0 * 1 + 1 * (i 1).val = (i 1).val; omega

theorem blk1 (c : Dev nD) (t : Fin cfg0.N) : (iblk m c 1 t : Vec Ideal S1x1 .f32) = V m c main_v30 :=
  word1 c t (V m c main_v30)

theorem blk2 (c : Dev nD) (t : Fin cfg0.N) : (iblk m c 2 t : Vec Ideal S4x6144x4608 .bf16) = dy m c := by
  funext i
  unfold iblk
  rw [View.read_apply]
  show V m c main_arg2 _ = dy m c i
  refine (congrFun (V_main_arg2 m c) _).trans (congrArg (dy m c) ?_)
  funext a
  apply Fin.ext
  match a with
  | ⟨0, _⟩ => show 0 * 4 + 1 * (i 0).val = (i 0).val; omega
  | ⟨1, _⟩ => show 0 * 6144 + 1 * (i 1).val = (i 1).val; omega
  | ⟨2, _⟩ => show 0 * 4608 + 1 * (i 2).val = (i 2).val; omega

theorem blk3 (c : Dev nD) (t : Fin cfg0.N) : (iblk m c 3 t : Vec Ideal S4x6144x2048 .fp8e4m3) = x m c := by
  funext i
  unfold iblk
  rw [View.read_apply]
  show V m c main_arg0 _ = x m c i
  refine (congrFun (V_main_arg0 m c) _).trans (congrArg (x m c) ?_)
  funext a
  apply Fin.ext
  match a with
  | ⟨0, _⟩ => show 0 * 4 + 1 * (i 0).val = (i 0).val; omega
  | ⟨1, _⟩ => show 0 * 6144 + 1 * (i 1).val = (i 1).val; omega
  | ⟨2, _⟩ => show 0 * 2048 + 1 * (i 2).val = (i 2).val; omega

theorem blk4 (c : Dev nD) (t : Fin cfg0.N) : (iblk m c 4 t : Vec Ideal S2048x4608 .f32) = w m c := by
  funext i
  unfold iblk
  rw [View.read_apply]
  show V m c main_arg3 _ = w m c i
  refine (congrFun (V_main_arg3 m c) _).trans (congrArg (w m c) ?_)
  funext a
  apply Fin.ext
  match a with
  | ⟨0, _⟩ => show 0 * 2048 + 1 * (i 0).val = (i 0).val; omega
  | ⟨1, _⟩ => show 0 * 4608 + 1 * (i 1).val = (i 1).val; omega

/-! ## The arrays the reference leaves -/

def dwG (c : Dev nD) : Vec Ideal S2048x4608 .f32 :=
  dwVal (invOf (amaxR m c) ix0) (mulS (xs m c) (scaleOf (amaxR m c)) ix0)
    (shapeCast S24576x2048 (x m c) shapeCasts_S4x6144x2048_S24576x2048)
    (shapeCast S24576x4608 (dy m c) shapeCasts_S4x6144x4608_S24576x4608) (w m c)

def codesG (c : Dev nD) : Vec Ideal S4x6144x4608 .fp8e5m2 := fun i => cod (invOf (amaxR m c) ix0) (dy m c i)

theorem after5 (c : Dev nD) (t : Fin cfg0.N) : ((dats m 0 c).after 5 t : Vec Ideal S2048x4608 .f32) = dwG m c := by
  funext k
  rw [after0_5]
  refine (congrFun (out5_eq _ _ _ _ _) k).trans ?_
  rw [blk0, blk1, blk2, blk3, blk4, read_v28, read_v30]
  exact pay2_apply _ _ _ _ _ _

theorem after6 (c : Dev nD) (t : Fin cfg0.N) : ((dats m 0 c).after 6 t : Vec Ideal S4x6144x4608 .fp8e5m2) = codesG m c := by
  funext k
  rw [after0_6]
  refine (congrFun (out6_eq _ _ _ _ _) k).trans ?_
  rw [blk0, blk2, read_v28]
  exact pay1_apply _ _ _

theorem hN0 : 0 < cfg0.N := by decide

theorem dw_arr (c : Dev nD) : (dats m 0 c).arrAt 5 cfg0.N = dwG m c := by
  refine (dats m 0 c).arrAt_eq_of_cover 5 (dwG m c) (fun t hf => ?_) fun i => ?_
  · funext j
    rw [View.read_apply]
    show ((dats m 0 c).after 5 t : Vec Ideal S2048x4608 .f32) j = dwG m c _
    rw [after5]
    refine congrArg (dwG m c) ?_
    funext a
    apply Fin.ext
    match a with
    | ⟨0, _⟩ => show (j 0).val = 0 * 2048 + 1 * (j 0).val; omega
    | ⟨1, _⟩ => show (j 1).val = 0 * 4608 + 1 * (j 1).val; omega
  · have h0 : (i 0 : Nat) < 2048 := (i 0).isLt
    have h1 : (i 1 : Nat) < 4608 := (i 1).isLt
    refine ⟨⟨0, hN0⟩, flush0_5 _, ?_⟩
    show i ∈ ((View.whole main_v31_0).slice (win0_5.rect ⟨0, hN0⟩)).set
    rw [View.set_slice_whole, Rect.mem_set_unit]
    intro a
    match a with
    | ⟨0, _⟩ => show 0 * 2048 ≤ (i 0 : Nat) ∧ (i 0 : Nat) < 0 * 2048 + 2048; omega
    | ⟨1, _⟩ => show 0 * 4608 ≤ (i 1 : Nat) ∧ (i 1 : Nat) < 0 * 4608 + 4608; omega

theorem codes_arr (c : Dev nD) : (dats m 0 c).arrAt 6 cfg0.N = codesG m c := by
  refine (dats m 0 c).arrAt_eq_of_cover 6 (codesG m c) (fun t hf => ?_) fun i => ?_
  · funext j
    rw [View.read_apply]
    show ((dats m 0 c).after 6 t : Vec Ideal S4x6144x4608 .fp8e5m2) j = codesG m c _
    rw [after6]
    refine congrArg (codesG m c) ?_
    funext a
    apply Fin.ext
    match a with
    | ⟨0, _⟩ => show (j 0).val = 0 * 4 + 1 * (j 0).val; omega
    | ⟨1, _⟩ => show (j 1).val = 0 * 6144 + 1 * (j 1).val; omega
    | ⟨2, _⟩ => show (j 2).val = 0 * 4608 + 1 * (j 2).val; omega
  · have h0 : (i 0 : Nat) < 4 := (i 0).isLt
    have h1 : (i 1 : Nat) < 6144 := (i 1).isLt
    have h2 : (i 2 : Nat) < 4608 := (i 2).isLt
    refine ⟨⟨0, hN0⟩, flush0_6 _, ?_⟩
    show i ∈ ((View.whole main_v31_1).slice (win0_6.rect ⟨0, hN0⟩)).set
    rw [View.set_slice_whole, Rect.mem_set_unit]
    intro a
    match a with
    | ⟨0, _⟩ => show 0 * 4 ≤ (i 0 : Nat) ∧ (i 0 : Nat) < 0 * 4 + 4; omega
    | ⟨1, _⟩ => show 0 * 6144 ≤ (i 1 : Nat) ∧ (i 1 : Nat) < 0 * 6144 + 6144; omega
    | ⟨2, _⟩ => show 0 * 4608 ≤ (i 2 : Nat) ∧ (i 2 : Nat) < 0 * 4608 + 4608; omega

end Cert.ReferenceIdeal.Value

end
-- ==== Proof.Algebraic.lean ====
/- The value claim: from memories that agree on the arguments, the ideal kernel and the ideal reference both run to the
   end, leave the arguments alone, and return the same new gradient, the same codes and the same scale.

   Both programs apply one function to the largest absolute value of the output gradient, so the scales agree once those
   do, and they do because each is the least upper bound of the same absolute values (`amax_eq`). The codes agree element by
   element. The kernel's new gradient, accumulated over 48 blocks of tokens, was already shown to be the sum over all
   24576 tokens (`dw_arr`). -/
module

public import proofs.«01_k».proof.Defs
public import proofs.«01_k».proof.Proof.RefValue

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.ValueIdx (ix0)

variable (m : (ℓ : Loc nD τ sig) → Buf (Elt Ideal) ℓ) (ρ : Dev nD → PrngReg)

/-! ## The four arguments, at their literal shapes -/

abbrev x (c : Dev nD) : Vec Ideal S4x6144x2048 .fp8e4m3 := m ((c : Thread nD τ).loc main_arg0)
abbrev xs (c : Dev nD) : FVec Ideal S_ .f32 := m ((c : Thread nD τ).loc main_arg1)
abbrev dy (c : Dev nD) : Vec Ideal S4x6144x4608 .bf16 := m ((c : Thread nD τ).loc main_arg2)
abbrev w (c : Dev nD) : Vec Ideal S2048x4608 .f32 := m ((c : Thread nD τ).loc main_arg3)

/-- The first kernel's word is the least upper bound of the absolute values of the output gradient. -/
theorem amaxK_le (c : Dev nD) (y : EReal) : (amaxK m ρ c ix0 : EReal) ≤ y ↔ ∀ i, abs (dy m c i) ≤ y := by
  obtain ⟨j, hj⟩ : ∃ j : S1x1.Idx, amaxK m ρ c ix0 = (W2 m ρ c (Proc.devRef .tc main_v2) : Vec Ideal S1x1 .f32) j := ⟨_, rfl⟩
  rw [hj]
  refine (amax_le (V1 m ρ) c _ (W2_arr m ρ c 1).symm j y).trans ?_
  rw [V1_v1]
  exact forall_shapeCast (dy m c) shapeCasts_S4x6144x4608_S24576x4608 (fun a => abs a ≤ y)

/-! ## What the kernel program returns, from the arguments -/

/-- The scale. -/
theorem W9_v24 (c : Dev nD) : W9 m ρ c (Proc.devRef .tc main_v24) = scaleOf (amaxK m ρ c) :=
  (W9_of m ρ c main_v24 (by decide)).trans ((W8_of_ne m ρ c main_v24 (by decide)).trans (read_v24 m ρ c))

/-- The new gradient. -/
theorem W9_v33_0 (c : Dev nD) : (W9 m ρ c (Proc.devRef .tc main_v33_0) : Vec Ideal S2048x4608 .f32)
    = dwVal (invOf (amaxK m ρ c) ix0) (mulS (xs m c) (scaleOf (amaxK m ρ c)) ix0)
        (shapeCast S24576x2048 (x m c) shapeCasts_S4x6144x2048_S24576x2048)
        (shapeCast S24576x4608 (dy m c) shapeCasts_S4x6144x4608_S24576x4608) (w m c) := by
  refine (W9_of m ρ c main_v33_0 (by decide)).trans ((W8_arr m ρ c 4).trans ((dw_arr (V7 m ρ) c).trans ?_))
  unfold dwG
  rw [v32_at0, v32_at1, V7_v0, V7_v1, V1_v0, V1_v1, V7_arg3]

/-- The codes as the second kernel leaves them, by token and column. -/
theorem W8_v33_1 (c : Dev nD) : (W8 m ρ c (Proc.devRef .tc main_v33_1) : Vec Ideal S24576x4608 .fp8e5m2)
    = fun k => cod (invOf (amaxK m ρ c) ix0) (shapeCast S24576x4608 (dy m c) shapeCasts_S4x6144x4608_S24576x4608 k) := by
  refine (W8_arr m ρ c 5).trans ((codes_arr (V7 m ρ) c).trans ?_)
  unfold codesG
  rw [v32_at0, V7_v1, V1_v1]

/-- A function applied element by element passes through a change of shape and back. -/
theorem shapeCast_map {s t : Shape} {α β : Type} (f : α → β) (v : s.Idx → α) (h : s.ShapeCasts t) (h' : t.ShapeCasts s) :
    shapeCast s (fun k => f (shapeCast t v h k)) h' = fun i => f (v i) :=
  funext fun i => congrArg f (congrFun (shapeCast_shapeCast v h h') i)

/-- The codes. -/
theorem W9_v34 (c : Dev nD) : (W9 m ρ c (Proc.devRef .tc main_v34) : Vec Ideal S4x6144x4608 .fp8e5m2)
    = fun i => cod (invOf (amaxK m ρ c) ix0) (dy m c i) := by
  have e : (W9 m ρ c (Proc.devRef .tc main_v34) : Vec Ideal S4x6144x4608 .fp8e5m2)
      = shapeCast S4x6144x4608 (W8 m ρ c (Proc.devRef .tc main_v33_1) : Vec Ideal S24576x4608 .fp8e5m2)
          shapeCasts_S24576x4608_S4x6144x4608 := by
    dsimp only [W9]
    generalize W8 m ρ c = V
    after_reads_simp
    rfl
  rw [e, W8_v33_1]
  exact shapeCast_map (cod (invOf (amaxK m ρ c) ix0)) (dy m c) _ _

/-! ## The reference, from the same arguments -/

/-- The two programs find the same largest absolute value. -/
theorem amax_eq (m' : (ℓ : Loc Cert.ReferenceIdeal.nD Cert.ReferenceIdeal.τ Cert.ReferenceIdeal.sig) → Buf (Elt Ideal) ℓ) (c : Dev nD)
    (h : Cert.ReferenceIdeal.Value.dy m' c = dy m c) : Cert.ReferenceIdeal.Value.amaxR m' c = amaxK m ρ c := by
  funext i
  have hi : i = ix0 := ValueIdx.eq_ix0 i
  subst hi
  refine eq_of_forall_ge_iff (α := EReal) fun y => ?_
  refine (Cert.ReferenceIdeal.Value.amaxR_le m' c y).trans (Iff.trans ?_ (amaxK_le m ρ c y).symm)
  rw [h]

/-- Both programs run to the end, leave the arguments as they were, and return the same three results. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => W9 m g c (Proc.devRef .tc main_v33_0), fun c => W9 m g c (Proc.devRef .tc main_v34),
    fun c => W9 m g c (Proc.devRef .tc main_v24), ?_, ?_⟩
  · refine θ_run_mono (run_all m g) fun r h c => ?_
    exact ⟨h.1 c _ (mem_uc main_v33_0 (by decide)), h.1 c _ (mem_uc main_v34 (by decide)), h.1 c _ (mem_uc main_v24 (by decide)),
      (h.1 c _ (mem_uc main_arg0 (by decide))).trans (W9_main_arg0 m g c),
      (h.1 c _ (mem_uc main_arg1 (by decide))).trans (W9_main_arg1 m g c),
      (h.1 c _ (mem_uc main_arg2 (by decide))).trans (W9_main_arg2 m g c),
      (h.1 c _ (mem_uc main_arg3 (by decide))).trans (W9_main_arg3 m g c)⟩
  · refine θ_run_mono (θ_run_and (Cert.ReferenceIdeal.Gen.run_main m' g') (Cert.ReferenceIdeal.Gen.unchanged m' g')) fun r h c => ?_
    have h0 : Cert.ReferenceIdeal.Value.x m' c = x m c := (hm c).1
    have h1 : Cert.ReferenceIdeal.Value.xs m' c = xs m c := (hm c).2.1
    have h2 : Cert.ReferenceIdeal.Value.dy m' c = dy m c := (hm c).2.2.1
    have h3 : Cert.ReferenceIdeal.Value.w m' c = w m c := (hm c).2.2.2
    have ha := amax_eq m g m' c h2
    refine ⟨((h.1 c).1 5).trans ?_, ((h.1 c).1 6).trans ?_, ((h.1 c).2 Cert.ReferenceIdeal.main_v23
      (Pipeline.mem_restRefs_of Cert.ReferenceIdeal.main_v23 (by decide) (by decide))).trans ?_, h.2 c⟩
    · refine (Cert.ReferenceIdeal.Value.dw_arr m' c).trans (Eq.trans ?_ (W9_v33_0 m g c).symm)
      unfold Cert.ReferenceIdeal.Value.dwG
      rw [ha, h0, h1, h2, h3]
    · refine (Cert.ReferenceIdeal.Value.codes_arr m' c).trans (Eq.trans ?_ (W9_v34 m g c).symm)
      unfold Cert.ReferenceIdeal.Value.codesG
      rw [ha, h2]
    · refine (Cert.ReferenceIdeal.Value.read_v23 m' c).trans (Eq.trans ?_ (W9_v24 m g c).symm)
      rw [ha]

end Cert.KernelIdeal.Value

end
-- ==== Proof.lean ====
module

public import proofs.«01_k».proof.Defs
public import proofs.«01_k».proof.Proof.KernelRun
public import proofs.«01_k».proof.Proof.KernelIdealRun
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial,
  Cert.KernelIdeal.Value.algebraic⟩

end Cert.Proof

end
